-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x256x128x128 : Shape := ⟨4, ![8, 256, 128, 128]⟩
abbrev S256x256x3x3 : Shape := ⟨4, ![256, 256, 3, 3]⟩
abbrev S256 : Shape := ⟨1, ![256]⟩
abbrev S9x256x1x1 : Shape := ⟨4, ![9, 256, 1, 1]⟩
abbrev S9 : Shape := ⟨1, ![9]⟩
abbrev S36x256x1x1 : Shape := ⟨4, ![36, 256, 1, 1]⟩
abbrev S36 : Shape := ⟨1, ![36]⟩
abbrev S3x3x256x256 : Shape := ⟨4, ![3, 3, 256, 256]⟩
abbrev S9x256x256 : Shape := ⟨3, ![9, 256, 256]⟩
abbrev S9x256 : Shape := ⟨2, ![9, 256]⟩
abbrev S36x256 : Shape := ⟨2, ![36, 256]⟩
abbrev S45x256 : Shape := ⟨2, ![45, 256]⟩
abbrev S_ : Shape := ⟨0, ![]⟩
abbrev S48x256 : Shape := ⟨2, ![48, 256]⟩
abbrev S256x1 : Shape := ⟨2, ![256, 1]⟩
abbrev S45 : Shape := ⟨1, ![45]⟩
abbrev S48 : Shape := ⟨1, ![48]⟩
abbrev S48x1 : Shape := ⟨2, ![48, 1]⟩
abbrev S8x9x128x128 : Shape := ⟨4, ![8, 9, 128, 128]⟩
abbrev S8x36x128x128 : Shape := ⟨4, ![8, 36, 128, 128]⟩
abbrev S1x256x64x128 : Shape := ⟨4, ![1, 256, 64, 128]⟩
abbrev S1x256x8x128 : Shape := ⟨4, ![1, 256, 8, 128]⟩
abbrev S1x9x64x128 : Shape := ⟨4, ![1, 9, 64, 128]⟩
abbrev S1x36x64x128 : Shape := ⟨4, ![1, 36, 64, 128]⟩
abbrev S1x256x1x128 : Shape := ⟨4, ![1, 256, 1, 128]⟩
abbrev S256x1x128 : Shape := ⟨3, ![256, 1, 128]⟩
abbrev S1x2304 : Shape := ⟨2, ![1, 2304]⟩
abbrev S1x256x17x128 : Shape := ⟨4, ![1, 256, 17, 128]⟩
abbrev S256x17x128 : Shape := ⟨3, ![256, 17, 128]⟩
abbrev S256x18x128 : Shape := ⟨3, ![256, 18, 128]⟩
abbrev S256x2304 : Shape := ⟨2, ![256, 2304]⟩
abbrev S256x2305 : Shape := ⟨2, ![256, 2305]⟩
abbrev S256x2048 : Shape := ⟨2, ![256, 2048]⟩
abbrev S1x256x256 : Shape := ⟨3, ![1, 256, 256]⟩
abbrev S256x256 : Shape := ⟨2, ![256, 256]⟩
abbrev S48x2048 : Shape := ⟨2, ![48, 2048]⟩
abbrev S48x16x128 : Shape := ⟨3, ![48, 16, 128]⟩
abbrev S9x16x128 : Shape := ⟨3, ![9, 16, 128]⟩
abbrev S1x9x16x128 : Shape := ⟨4, ![1, 9, 16, 128]⟩
abbrev S36x16x128 : Shape := ⟨3, ![36, 16, 128]⟩
abbrev S1x36x16x128 : Shape := ⟨4, ![1, 36, 16, 128]⟩
abbrev S1x256x18x128 : Shape := ⟨4, ![1, 256, 18, 128]⟩

abbrev nBuf : Space → Nat
  | .hbm => 25
  | .vmem => 14
  | .smem => 0
  | _ => 0

abbrev bufTy : (tb : Table) → Fin (tcTables nBuf tb) → BufTy
  | .hbm, ⟨0, _⟩ => ⟨S8x256x128x128, .f32⟩
  | .hbm, ⟨1, _⟩ => ⟨S256x256x3x3, .f32⟩
  | .hbm, ⟨2, _⟩ => ⟨S256, .f32⟩
  | .hbm, ⟨3, _⟩ => ⟨S9x256x1x1, .f32⟩
  | .hbm, ⟨4, _⟩ => ⟨S9, .f32⟩
  | .hbm, ⟨5, _⟩ => ⟨S36x256x1x1, .f32⟩
  | .hbm, ⟨6, _⟩ => ⟨S36, .f32⟩
  | .hbm, ⟨7, _⟩ => ⟨S3x3x256x256, .f32⟩
  | .hbm, ⟨8, _⟩ => ⟨S9x256x256, .f32⟩
  | .hbm, ⟨9, _⟩ => ⟨S9x256x256, .bf16⟩
  | .hbm, ⟨10, _⟩ => ⟨S9x256, .f32⟩
  | .hbm, ⟨11, _⟩ => ⟨S36x256, .f32⟩
  | .hbm, ⟨12, _⟩ => ⟨S45x256, .f32⟩
  | .hbm, ⟨13, _⟩ => ⟨S_, .i32⟩
  | .hbm, ⟨14, _⟩ => ⟨S_, .f32⟩
  | .hbm, ⟨15, _⟩ => ⟨S48x256, .f32⟩
  | .hbm, ⟨16, _⟩ => ⟨S48x256, .bf16⟩
  | .hbm, ⟨17, _⟩ => ⟨S256x1, .f32⟩
  | .hbm, ⟨18, _⟩ => ⟨S45, .f32⟩
  | .hbm, ⟨19, _⟩ => ⟨S_, .i32⟩
  | .hbm, ⟨20, _⟩ => ⟨S_, .f32⟩
  | .hbm, ⟨21, _⟩ => ⟨S48, .f32⟩
  | .hbm, ⟨22, _⟩ => ⟨S48x1, .f32⟩
  | .hbm, ⟨23, _⟩ => ⟨S8x9x128x128, .f32⟩
  | .hbm, ⟨24, _⟩ => ⟨S8x36x128x128, .f32⟩
  | .local _ .vmem, ⟨0, _⟩ => ⟨S1x256x64x128, .f32⟩
  | .local _ .vmem, ⟨1, _⟩ => ⟨S1x256x64x128, .f32⟩
  | .local _ .vmem, ⟨2, _⟩ => ⟨S1x256x8x128, .f32⟩
  | .local _ .vmem, ⟨3, _⟩ => ⟨S1x256x8x128, .f32⟩
  | .local _ .vmem, ⟨4, _⟩ => ⟨S1x256x8x128, .f32⟩
  | .local _ .vmem, ⟨5, _⟩ => ⟨S1x256x8x128, .f32⟩
  | .local _ .vmem, ⟨6, _⟩ => ⟨S9x256x256, .bf16⟩
  | .local _ .vmem, ⟨7, _⟩ => ⟨S48x256, .bf16⟩
  | .local _ .vmem, ⟨8, _⟩ => ⟨S256x1, .f32⟩
  | .local _ .vmem, ⟨9, _⟩ => ⟨S48x1, .f32⟩
  | .local _ .vmem, ⟨10, _⟩ => ⟨S1x9x64x128, .f32⟩
  | .local _ .vmem, ⟨11, _⟩ => ⟨S1x9x64x128, .f32⟩
  | .local _ .vmem, ⟨12, _⟩ => ⟨S1x36x64x128, .f32⟩
  | .local _ .vmem, ⟨13, _⟩ => ⟨S1x36x64x128, .f32⟩
  | _, _ => ⟨S8x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, c0_i32_0.toNat, v2.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c15_i32 : BitVec 32 := 15#32
  let v2 : BitVec 32 := Scalar.minsi v1 c15_i32
  let c0_i32 : BitVec 32 := 0#32
  let c0_i32_0 : BitVec 32 := 0#32
  let c0_i32_1 : BitVec 32 := 0#32
  ![arg0.toNat, c0_i32.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S9x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S48x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S48x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x9x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x36x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8x256x128x128 : Shape := ⟨4, ![8, 256, 128, 128]⟩
abbrev S256x256x3x3 : Shape := ⟨4, ![256, 256, 3, 3]⟩
abbrev S256 : Shape := ⟨1, ![256]⟩
abbrev S9x256x1x1 : Shape := ⟨4, ![9, 256, 1, 1]⟩
abbrev S9 : Shape := ⟨1, ![9]⟩
abbrev S36x256x1x1 : Shape := ⟨4, ![36, 256, 1, 1]⟩
abbrev S36 : Shape := ⟨1, ![36]⟩
abbrev S_ : Shape := ⟨0, ![]⟩
abbrev S8x256x130x130 : Shape := ⟨4, ![8, 256, 130, 130]⟩
abbrev S256x256x1x1 : Shape := ⟨4, ![256, 256, 1, 1]⟩
abbrev S256x256 : Shape := ⟨2, ![256, 256]⟩
abbrev S8x128x128x256 : Shape := ⟨4, ![8, 128, 128, 256]⟩
abbrev S1x256x1x1 : Shape := ⟨4, ![1, 256, 1, 1]⟩
abbrev S9x256 : Shape := ⟨2, ![9, 256]⟩
abbrev S8x128x128x9 : Shape := ⟨4, ![8, 128, 128, 9]⟩
abbrev S8x9x128x128 : Shape := ⟨4, ![8, 9, 128, 128]⟩
abbrev S1x9x1x1 : Shape := ⟨4, ![1, 9, 1, 1]⟩
abbrev S36x256 : Shape := ⟨2, ![36, 256]⟩
abbrev S8x128x128x36 : Shape := ⟨4, ![8, 128, 128, 36]⟩
abbrev S8x36x128x128 : Shape := ⟨4, ![8, 36, 128, 128]⟩
abbrev S1x36x1x1 : Shape := ⟨4, ![1, 36, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S8x256x128x128, .f32⟩
  | .hbm, ⟨1, _⟩ => ⟨S256x256x3x3, .f32⟩
  | .hbm, ⟨2, _⟩ => ⟨S256, .f32⟩
  | .hbm, ⟨3, _⟩ => ⟨S9x256x1x1, .f32⟩
  | .hbm, ⟨4, _⟩ => ⟨S9, .f32⟩
  | .hbm, ⟨5, _⟩ => ⟨S36x256x1x1, .f32⟩
  | .hbm, ⟨6, _⟩ => ⟨S36, .f32⟩
  | .hbm, ⟨7, _⟩ => ⟨S_, .i32⟩
  | .hbm, ⟨8, _⟩ => ⟨S_, .f32⟩
  | .hbm, ⟨9, _⟩ => ⟨S8x256x130x130, .f32⟩
  | .hbm, ⟨10, _⟩ => ⟨S256x256x1x1, .f32⟩
  | .hbm, ⟨11, _⟩ => ⟨S256x256, .f32⟩
  | .hbm, ⟨12, _⟩ => ⟨S8x256x128x128, .f32⟩
  | .hbm, ⟨13, _⟩ => ⟨S8x128x128x256, .f32⟩
  | .hbm, ⟨14, _⟩ => ⟨S8x256x128x128, .f32⟩
  | .hbm, ⟨15, _⟩ => ⟨S_, .f32⟩
  | .hbm, ⟨16, _⟩ => ⟨S8x256x128x128, .f32⟩
  | .hbm, ⟨17, _⟩ => ⟨S8x256x128x128, .f32⟩
  | .hbm, ⟨18, _⟩ => ⟨S256x256x1x1, .f32⟩
  | .hbm, ⟨19, _⟩ => ⟨S256x256, .f32⟩
  | .hbm, ⟨20, _⟩ => ⟨S8x256x128x128, .f32⟩
  | .hbm, ⟨21, _⟩ => ⟨S8x128x128x256, .f32⟩
  | .hbm, ⟨22, _⟩ => ⟨S8x256x128x128, .f32⟩
  | .hbm, ⟨23, _⟩ => ⟨S8x256x128x128, .f32⟩
  | .hbm, ⟨24, _⟩ => ⟨S256x256x1x1, .f32⟩
  | .hbm, ⟨25, _⟩ => ⟨S256x256, .f32⟩
  | .hbm, ⟨26, _⟩ => ⟨S8x256x128x128, .f32⟩
  | .hbm, ⟨27, _⟩ => ⟨S8x128x128x256, .f32⟩
  | .hbm, ⟨28, _⟩ => ⟨S8x256x128x128, .f32⟩
  | .hbm, ⟨29, _⟩ => ⟨S8x256x128x128, .f32⟩
  | .hbm, ⟨30, _⟩ => ⟨S256x256x1x1, .f32⟩
  | .hbm, ⟨31, _⟩ => ⟨S256x256, .f32⟩
  | .hbm, ⟨32, _⟩ => ⟨S8x256x128x128, .f32⟩
  | .hbm, ⟨33, _⟩ => ⟨S8x128x128x256, .f32⟩
  | .hbm, ⟨34, _⟩ => ⟨S8x256x128x128, .f32⟩
  | .hbm, ⟨35, _⟩ => ⟨S8x256x128x128, .f32⟩
  | .hbm, ⟨36, _⟩ => ⟨S256x256x1x1, .f32⟩
  | .hbm, ⟨37, _⟩ => ⟨S256x256, .f32⟩
  | .hbm, ⟨38, _⟩ => ⟨S8x256x128x128, .f32⟩
  | .hbm, ⟨39, _⟩ => ⟨S8x128x128x256, .f32⟩
  | .hbm, ⟨40, _⟩ => ⟨S8x256x128x128, .f32⟩
  | .hbm, ⟨41, _⟩ => ⟨S8x256x128x128, .f32⟩
  | .hbm, ⟨42, _⟩ => ⟨S256x256x1x1, .f32⟩
  | .hbm, ⟨43, _⟩ => ⟨S256x256, .f32⟩
  | .hbm, ⟨44, _⟩ => ⟨S8x256x128x128, .f32⟩
  | .hbm, ⟨45, _⟩ => ⟨S8x128x128x256, .f32⟩
  | .hbm, ⟨46, _⟩ => ⟨S8x256x128x128, .f32⟩
  | .hbm, ⟨47, _⟩ => ⟨S8x256x128x128, .f32⟩
  | .hbm, ⟨48, _⟩ => ⟨S256x256x1x1, .f32⟩
  | .hbm, ⟨49, _⟩ => ⟨S256x256, .f32⟩
  | .hbm, ⟨50, _⟩ => ⟨S8x256x128x128, .f32⟩
  | .hbm, ⟨51, _⟩ => ⟨S8x128x128x256, .f32⟩
  | .hbm, ⟨52, _⟩ => ⟨S8x256x128x128, .f32⟩
  | .hbm, ⟨53, _⟩ => ⟨S8x256x128x128, .f32⟩
  | .hbm, ⟨54, _⟩ => ⟨S256x256x1x1, .f32⟩
  | .hbm, ⟨55, _⟩ => ⟨S256x256, .f32⟩
  | .hbm, ⟨56, _⟩ => ⟨S8x256x128x128, .f32⟩
  | .hbm, ⟨57, _⟩ => ⟨S8x128x128x256, .f32⟩
  | .hbm, ⟨58, _⟩ => ⟨S8x256x128x128, .f32⟩
  | .hbm, ⟨59, _⟩ => ⟨S8x256x128x128, .f32⟩
  | .hbm, ⟨60, _⟩ => ⟨S256x256x1x1, .f32⟩
  | .hbm, ⟨61, _⟩ => ⟨S256x256, .f32⟩
  | .hbm, ⟨62, _⟩ => ⟨S8x256x128x128, .f32⟩
  | .hbm, ⟨63, _⟩ => ⟨S8x128x128x256, .f32⟩
  | .hbm, ⟨64, _⟩ => ⟨S8x256x128x128, .f32⟩
  | .hbm, ⟨65, _⟩ => ⟨S8x256x128x128, .f32⟩
  | .hbm, ⟨66, _⟩ => ⟨S1x256x1x1, .f32⟩
  | .hbm, ⟨67, _⟩ => ⟨S8x256x128x128, .f32⟩
  | .hbm, ⟨68, _⟩ => ⟨S8x256x128x128, .f32⟩
  | .hbm, ⟨69, _⟩ => ⟨S_, .f32⟩
  | .hbm, ⟨70, _⟩ => ⟨S8x256x128x128, .f32⟩
  | .hbm, ⟨71, _⟩ => ⟨S8x256x128x128, .f32⟩
  | .hbm, ⟨72, _⟩ => ⟨S9x256, .f32⟩
  | .hbm, ⟨73, _⟩ => ⟨S8x128x128x9, .f32⟩
  | .hbm, ⟨74, _⟩ => ⟨S8x9x128x128, .f32⟩
  | .hbm, ⟨75, _⟩ => ⟨S1x9x1x1, .f32⟩
  | .hbm, ⟨76, _⟩ => ⟨S8x9x128x128, .f32⟩
  | .hbm, ⟨77, _⟩ => ⟨S8x9x128x128, .f32⟩
  | .hbm, ⟨78, _⟩ => ⟨S8x9x128x128, .f32⟩
  | .hbm, ⟨79, _⟩ => ⟨S8x9x128x128, .f32⟩
  | .hbm, ⟨80, _⟩ => ⟨S_, .f32⟩
  | .hbm, ⟨81, _⟩ => ⟨S8x9x128x128, .f32⟩
  | .hbm, ⟨82, _⟩ => ⟨S8x9x128x128, .f32⟩
  | .hbm, ⟨83, _⟩ => ⟨S_, .f32⟩
  | .hbm, ⟨84, _⟩ => ⟨S8x9x128x128, .f32⟩
  | .hbm, ⟨85, _⟩ => ⟨S8x9x128x128, .f32⟩
  | .hbm, ⟨86, _⟩ => ⟨S36x256, .f32⟩
  | .hbm, ⟨87, _⟩ => ⟨S8x128x128x36, .f32⟩
  | .hbm, ⟨88, _⟩ => ⟨S8x36x128x128, .f32⟩
  | .hbm, ⟨89, _⟩ => ⟨S1x36x1x1, .f32⟩
  | .hbm, ⟨90, _⟩ => ⟨S8x36x128x128, .f32⟩
  | .hbm, ⟨91, _⟩ => ⟨S8x36x128x128, .f32⟩
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_call1_cst : Ref sig .tc := ⟨.hbm, 69, rfl⟩
abbrev main_call1_v0 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_0 : Ref sig .tc := ⟨.hbm, 80, rfl⟩
abbrev main_v68 : Ref sig .tc := ⟨.hbm, 81, rfl⟩
abbrev main_v69 : Ref sig .tc := ⟨.hbm, 82, rfl⟩
abbrev main_cst_1 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩

abbrev nD : Nat := 1
abbrev τ : Topo := Topo.v7x

variable {F : FTy → Type} [FloatOps F]
-- ==== Proof.Spec.lean ====
/- The mathematics of a region proposal head, on the extended reals, as functions of the seven arguments: a 3×3
   convolution of the zero-padded feature map, a bias and a ReLU, then two 1×1 convolutions, the first under a sigmoid.
   Both programs are shown to compute these functions. -/
module

public import Idealize.ShloMosaic.Lib.ValueIdx

@[expose] public section

noncomputable section

namespace Cert.Rpn

open Idealize.ShloMosaic Idealize.ShloMosaic.ValueIdx

/-- The feature map [8,256,128,128]. -/
abbrev Feat := (⟨4, ![8, 256, 128, 128]⟩ : Shape).Idx → EReal
/-- The 3×3 weights [256,256,3,3]: output channel, input channel, row offset, column offset. -/
abbrev ConvW := (⟨4, ![256, 256, 3, 3]⟩ : Shape).Idx → EReal
/-- A bias vector of `n` entries. -/
abbrev Bias (n : ℕ) := (⟨1, ![n]⟩ : Shape).Idx → EReal
/-- The weights of a 1×1 convolution from 256 to `n` channels. -/
abbrev HeadW (n : ℕ) := (⟨4, ![n, 256, 1, 1]⟩ : Shape).Idx → EReal

/-- The feature map with one row and one column of zeros around it, at padded row `yy` and padded column `xx`. -/
def padded (X : Feat) (b : Fin 8) (c : Fin 256) (yy xx : ℕ) : EReal :=
  if h : (1 ≤ yy ∧ yy ≤ 128) ∧ (1 ≤ xx ∧ xx ≤ 128) then
    X (ix4 b c ⟨yy - 1, by omega⟩ ⟨xx - 1, by omega⟩)
  else 0

/-- The nine terms of a 3×3 window added row by row, from the left. -/
def sum9 (f : Fin 3 → Fin 3 → EReal) : EReal :=
  f 0 0 + f 0 1 + f 0 2 + f 1 0 + f 1 1 + f 1 2 + f 2 0 + f 2 1 + f 2 2

/-- Two windows with equal terms have equal sums. -/
theorem sum9_congr {f g : Fin 3 → Fin 3 → EReal} (h : ∀ dy dx, f dy dx = g dy dx) : sum9 f = sum9 g := by
  rw [show f = g from funext fun dy => funext fun dx => h dy dx]

/-- The convolution at image `b`, channel `o`, row `y`, column `x`. -/
def conv (X : Feat) (W : ConvW) (b : Fin 8) (o : Fin 256) (y x : ℕ) : EReal :=
  sum9 fun dy dx => ∑ c : Fin 256, W (ix4 o c dy dx) * padded X b c (y + dy.val) (x + dx.val)

/-- The hidden map: the convolution plus its bias, cut below at zero. -/
def hidden (X : Feat) (W : ConvW) (β : Bias 256) (b : Fin 8) (o : Fin 256) (y x : ℕ) : EReal :=
  max (conv X W b o y x + β (ix1 o)) 0

/-- A 1×1 convolution of the hidden map plus its bias, at output channel `j`. -/
def head {n : ℕ} (X : Feat) (W : ConvW) (β : Bias 256) (U : HeadW n) (γ : Bias n) (b : Fin 8) (j : Fin n) (y x : ℕ) : EReal :=
  (∑ o : Fin 256, U (ix4 j o 0 0) * hidden X W β b o y x) + γ (ix1 j)

/-- The class scores: the sigmoid of the first head. -/
def clsScore (X : Feat) (W : ConvW) (β : Bias 256) (U : HeadW 9) (γ : Bias 9) : (⟨4, ![8, 9, 128, 128]⟩ : Shape).Idx → EReal :=
  fun i => Ideal.logistic (head X W β U γ (i 0) (i 1) (i 2).val (i 3).val)

/-- The box regressions: the second head. -/
def bboxPred (X : Feat) (W : ConvW) (β : Bias 256) (U : HeadW 36) (γ : Bias 36) : (⟨4, ![8, 36, 128, 128]⟩ : Shape).Idx → EReal :=
  fun i => head X W β U γ (i 0) (i 1) (i 2).val (i 3).val

end Cert.Rpn

end
-- ==== Proof.Chunk.lean ====
/- One sixteen-row chunk of the kernel's body, as a function of its window of eighteen rows: the window flattened, its
   two column-shifted copies, the nine products, the bias and the cut at zero, and the two heads as one product. The
   body's eight stores are shown to hold this function of their four windows. -/
module

public import proofs.«01_k».proof.Proof.Gen.KernelIdeal.Value
public import proofs.«01_k».proof.Proof.Spec

@[expose] public section

noncomputable section

namespace Cert.KernelIdeal.Rpn

open Cert.KernelIdeal Cert.KernelIdeal.Gen Idealize.ShloMosaic

/-- A window of eighteen rows as the rows' concatenation, narrowed. -/
def flat (win : FVec Ideal S256x18x128 .f32) : FVec Ideal S256x2304 .bf16 :=
  shapeCast S256x2304 (truncf .bf16 win bitsLt_bf16_f32) shapeCasts_S256x18x128_S256x2304

/-- A column of zeros. -/
def zeroCol : FVec Ideal S256x1 .bf16 := broadcast S256x1 (Scalar.sitofp .bf16 0#32)

/-- The left neighbour of every position, zero in the first column. -/
def leftOf (xc : FVec Ideal S256x2304 .bf16) : FVec Ideal S256x2304 .bf16 :=
  k0_pay8 k0_pay5 (concatenate S256x2305 1 [⟨S256x1, zeroCol⟩, ⟨S256x2304, xc⟩] concatenates_S256x1_S256x2304_S256x2305_d1)

/-- The right neighbour of every position, zero in the last column. -/
def rightOf (xc : FVec Ideal S256x2304 .bf16) : FVec Ideal S256x2304 .bf16 := k0_pay9 k0_pay5 xc

/-- One product of the convolution: a tap's weights with the columns of `buf` from `off` on. -/
def tap (w : Vec Ideal S1x256x256 .bf16) (off : Fin 2 → ℕ) (h : S256x2304.Slices off S256x2048) (buf : FVec Ideal S256x2304 .bf16) :
    FVec Ideal S256x2048 .f32 :=
  matmul dot_S256x256_S256x2048_S256x2048_1_0_0_1_n_n none (shapeCast S256x256 w shapeCasts_S1x256x256_S256x256 : FVec Ideal S256x256 .bf16)
    (extractStridedSlice S256x2048 off buf h) (constant S256x2048 .f32 0x00000000#32)

/-- The nine products added in order. -/
def convSum (xc : FVec Ideal S256x2304 .bf16) (x3 : Vec Ideal S9x256x256 .bf16) : FVec Ideal S256x2048 .f32 :=
  addf (addf (addf (addf (addf (addf (addf (addf (addf (broadcast S256x2048 (Scalar.ofBits .f32 0x00000000#32))
    (tap (View.ld x3 r0_3) ![0, 0] slices_S256x2304_o0_0_S256x2048 (leftOf xc)))
    (tap (View.ld x3 r0_4) ![0, 0] slices_S256x2304_o0_0_S256x2048 xc))
    (tap (View.ld x3 r0_5) ![0, 0] slices_S256x2304_o0_0_S256x2048 (rightOf xc)))
    (tap (View.ld x3 r0_6) ![0, 128] slices_S256x2304_o0_128_S256x2048 (leftOf xc)))
    (tap (View.ld x3 r0_7) ![0, 128] slices_S256x2304_o0_128_S256x2048 xc))
    (tap (View.ld x3 r0_8) ![0, 128] slices_S256x2304_o0_128_S256x2048 (rightOf xc)))
    (tap (View.ld x3 r0_9) ![0, 256] slices_S256x2304_o0_256_S256x2048 (leftOf xc)))
    (tap (View.ld x3 r0_10) ![0, 256] slices_S256x2304_o0_256_S256x2048 xc))
    (tap (View.ld x3 r0_11) ![0, 256] slices_S256x2304_o0_256_S256x2048 (rightOf xc))

/-- The hidden map of a chunk: bias added, cut at zero, narrowed. -/
def hiddenOf (xc : FVec Ideal S256x2304 .bf16) (x3 : Vec Ideal S9x256x256 .bf16) (x5 : Vec Ideal S256x1 .f32) : FVec Ideal S256x2048 .bf16 :=
  truncf .bf16 (maximumf (addf (convSum xc x3)
      (broadcastTo S256x2048 (shapeCast S256x1 (View.ld x5 r0_12) shapeCasts_S256x1_S256x1) broadcasts_S256x1_S256x2048))
    (broadcast S256x2048 (Scalar.ofBits .f32 0x00000000#32))) bitsLt_bf16_f32

/-- Both heads of a chunk before the sigmoid: forty-eight rows, three of them padding. -/
def headsOf (win : FVec Ideal S256x18x128 .f32) (x3 : Vec Ideal S9x256x256 .bf16) (x4 : Vec Ideal S48x256 .bf16)
    (x5 : Vec Ideal S256x1 .f32) (x6 : Vec Ideal S48x1 .f32) : FVec Ideal S48x16x128 .f32 :=
  shapeCast S48x16x128 (addf
    (matmul dot_S48x256_S256x2048_S48x2048_1_0_0_1_n_n none (shapeCast S48x256 (View.ld x4 r0_13) shapeCasts_S48x256_S48x256 : FVec Ideal S48x256 .bf16)
      (hiddenOf (flat win) x3 x5) (constant S48x2048 .f32 0x00000000#32))
    (broadcastTo S48x2048 (shapeCast S48x1 (View.ld x6 r0_14) shapeCasts_S48x1_S48x1) broadcasts_S48x1_S48x2048))
    shapeCasts_S48x2048_S48x16x128

/-- The class rows of a chunk: the first nine, under the sigmoid. -/
def clsOf (u : FVec Ideal S48x16x128 .f32) : FVec Ideal S1x9x16x128 .f32 :=
  shapeCast S1x9x16x128 (logistic (extractStridedSlice S9x16x128 ![0, 0, 0] u slices_S48x16x128_o0_0_0_S9x16x128)) shapeCasts_S9x16x128_S1x9x16x128

/-- The box rows of a chunk: the next thirty-six. -/
def bboxOf (u : FVec Ideal S48x16x128 .f32) : FVec Ideal S1x36x16x128 .f32 :=
  shapeCast S1x36x16x128 (extractStridedSlice S36x16x128 ![9, 0, 0] u slices_S48x16x128_o9_0_0_S36x16x128) shapeCasts_S36x16x128_S1x36x16x128

/-! ## The four windows -/

/-- The first chunk's window: the row above the block (zeros above the image), then seventeen rows of the block. -/
def win0 (i : grid0.Coords) (x0 : Vec Ideal S1x256x64x128 .f32) (x1 : Vec Ideal S1x256x8x128 .f32) : FVec Ideal S256x18x128 .f32 :=
  concatenate S256x18x128 1
    [⟨S256x1x128, Scalar.select (Scalar.cmpi .sgt (BitVec.ofNat 32 (i 1).val) 0#32)
        (shapeCast S256x1x128 (View.ld x1 r0_0) shapeCasts_S1x256x1x128_S256x1x128 : FVec Ideal S256x1x128 .f32)
        (broadcast S256x1x128 (Scalar.ofBits .f32 0x00000000#32))⟩,
      ⟨S256x17x128, shapeCast S256x17x128 (View.ld x0 r0_2) shapeCasts_S1x256x17x128_S256x17x128⟩]
    concatenates_S256x1x128_S256x17x128_S256x18x128_d1

/-- The second chunk's window: rows 15 to 32 of the block. -/
def win1 (x0 : Vec Ideal S1x256x64x128 .f32) : FVec Ideal S256x18x128 .f32 :=
  shapeCast S256x18x128 (View.ld x0 r0_17) shapeCasts_S1x256x18x128_S256x18x128

/-- The third chunk's window: rows 31 to 48 of the block. -/
def win2 (x0 : Vec Ideal S1x256x64x128 .f32) : FVec Ideal S256x18x128 .f32 :=
  shapeCast S256x18x128 (View.ld x0 r0_20) shapeCasts_S1x256x18x128_S256x18x128

/-- The last chunk's window: seventeen rows of the block, then the row below it (zeros below the image). -/
def win3 (i : grid0.Coords) (x0 : Vec Ideal S1x256x64x128 .f32) (x2 : Vec Ideal S1x256x8x128 .f32) : FVec Ideal S256x18x128 .f32 :=
  concatenate S256x18x128 1
    [⟨S256x17x128, shapeCast S256x17x128 (View.ld x0 r0_23) shapeCasts_S1x256x17x128_S256x17x128⟩,
      ⟨S256x1x128, Scalar.select (Scalar.cmpi .slt (BitVec.ofNat 32 (i 1).val) 1#32)
        (shapeCast S256x1x128 (View.ld x2 r0_1) shapeCasts_S1x256x1x128_S256x1x128 : FVec Ideal S256x1x128 .f32)
        (broadcast S256x1x128 (Scalar.ofBits .f32 0x00000000#32))⟩]
    concatenates_S256x17x128_S256x1x128_S256x18x128_d1

/-! ## The stores -/

variable (i : grid0.Coords) (x0 : Vec Ideal S1x256x64x128 .f32) (x1 x2 : Vec Ideal S1x256x8x128 .f32)
  (x3 : Vec Ideal S9x256x256 .bf16) (x4 : Vec Ideal S48x256 .bf16) (x5 : Vec Ideal S256x1 .f32) (x6 : Vec Ideal S48x1 .f32)

/-- The class block is the class rows of the four chunks, sixteen rows each. -/
theorem out7_eq : out0_7 i x0 x1 x2 x3 x4 x5 x6
    = View.canon [⟨r0_24, clsOf (headsOf (win3 i x0 x2) x3 x4 x5 x6)⟩, ⟨r0_21, clsOf (headsOf (win2 x0) x3 x4 x5 x6)⟩,
        ⟨r0_18, clsOf (headsOf (win1 x0) x3 x4 x5 x6)⟩, ⟨r0_15, clsOf (headsOf (win0 i x0 x1) x3 x4 x5 x6)⟩] := rfl

/-- The box block is the box rows of the four chunks. -/
theorem out8_eq : out0_8 i x0 x1 x2 x3 x4 x5 x6
    = View.canon [⟨r0_25, bboxOf (headsOf (win3 i x0 x2) x3 x4 x5 x6)⟩, ⟨r0_22, bboxOf (headsOf (win2 x0) x3 x4 x5 x6)⟩,
        ⟨r0_19, bboxOf (headsOf (win1 x0) x3 x4 x5 x6)⟩, ⟨r0_16, bboxOf (headsOf (win0 i x0 x1) x3 x4 x5 x6)⟩] := rfl

end Cert.KernelIdeal.Rpn

end
-- ==== Proof.ChunkValue.lean ====
/- A chunk read at an index: the two shifted copies of a window are its left and right neighbours with zeros beyond the
   first and last columns, so the nine products sum a 3×3 window, and the heads are a 1×1 convolution of that sum. -/
module

public import proofs.«01_k».proof.Proof.Chunk
public import Idealize.ShloMosaic.Lib.MatmulPlain

@[expose] public section

noncomputable section

namespace Cert.KernelIdeal.Rpn

open Cert.KernelIdeal Cert.KernelIdeal.Gen Cert.Rpn Idealize.ShloMosaic Idealize.ShloMosaic.ValueIdx

/-- The lane word at a position is its column. -/
theorem lane_apply : ∀ p : Fin 2304, k0_pay5 (ix2 (0 : Fin 1) p) = BitVec.ofNat 32 (p.val % 128) := by
  decide +kernel

/-- A window of eighteen rows with a column of zeros on either side, at padded column `xx`. -/
def winPad (win : FVec Ideal S256x18x128 .f32) (c : Fin 256) (rr : Fin 18) (xx : ℕ) : EReal :=
  if h : 1 ≤ xx ∧ xx ≤ 128 then win (ix3 c rr ⟨xx - 1, by omega⟩) else 0

/-- The flattened window at row `rr`, column `x`. -/
theorem flat_apply (win : FVec Ideal S256x18x128 .f32) (c : Fin 256) (rr : Fin 18) (x : Fin 128) (p : Fin 2304)
    (hp : p.val = rr.val * 128 + x.val) : flat win (ix2 c p) = win (ix3 c rr x) := by
  unfold flat
  rw [shapeCast_apply _ _ _ (ix3 c rr x) (by
    rw [Shape.rowMajor_val_three, Shape.rowMajor_val_two]
    show (c.val * 18 + rr.val) * 128 + x.val = c.val * 2304 + p.val
    omega)]
  rfl

/-- The zero column is zero. -/
theorem zeroCol_apply (k : S256x1.Idx) : zeroCol k = 0 := by
  show (((0#32 : BitVec 32).toInt : ℝ) : EReal) = 0
  simp

/-- A comparison of two lane words below 2³² compares the numbers. -/
theorem laneEq (n k : ℕ) (hn : n < 128) (hk : k < 128) :
    IntOp.cmpi .eq (BitVec.ofNat 32 n) (BitVec.ofNat 32 k) = if n = k then 1#1 else 0#1 := by
  unfold IntOp.cmpi
  by_cases h : n = k
  · subst h; simp
  · have : BitVec.ofNat 32 n ≠ BitVec.ofNat 32 k := fun e => h (by
      have := congrArg BitVec.toNat e; simp at this; omega)
    rw [if_neg h]
    show BitVec.ofBool (BitVec.ofNat 32 n == BitVec.ofNat 32 k) = 0#1
    rw [beq_eq_false_iff_ne.mpr this]
    rfl

/-- The left copy at row `rr`, column `x`: the window one column to the left. -/
theorem leftOf_apply (win : FVec Ideal S256x18x128 .f32) (c : Fin 256) (rr : Fin 18) (x : Fin 128) (p : Fin 2304)
    (hp : p.val = rr.val * 128 + x.val) : leftOf (flat win) (ix2 c p) = winPad win c rr x.val := by
  have hx : p.val % 128 = x.val := by omega
  have hm : broadcastTo S256x2304 (shapeCast S1x2304 (cmpi .eq k0_pay5 (broadcast S1x2304 0#32)) shapeCasts_S1x2304_S1x2304)
      broadcasts_S1x2304_S256x2304 (ix2 c p) = if x.val = 0 then 1#1 else 0#1 := by
    rw [broadcastTo_apply _ _ _ (ix2 (0 : Fin 1) p) (by intro a; fin_cases a <;> rfl), shapeCast_self]
    show IntOp.cmpi .eq (k0_pay5 (ix2 (0 : Fin 1) p)) (BitVec.ofNat 32 0) = _
    rw [lane_apply, hx, laneEq _ _ x.isLt (by omega)]
  unfold leftOf k0_pay8
  rw [select_apply, hm]
  by_cases h0 : x.val = 0
  · rw [if_pos h0, select_one, winPad, dif_neg (by omega)]
    show Ideal.ofBits .bf16 0x0000#16 = 0
    simp [Ideal.ofBits, Ideal.ieee]
  · rw [if_neg h0, select_zero, winPad, dif_pos (by omega)]
    rw [extractStridedSlice_apply _ _ _ _ (ix2 c (⟨p.val, by omega⟩ : Fin 2305)) (by intro a; fin_cases a <;> simp),
      concatenate_pair_apply_right (s₁ := S256x1) (s₂ := S256x2304) (t := S256x2305) 1 _ _ _ _ rfl rfl (ix2 c (⟨p.val - 1, by omega⟩ : Fin 2304))
        (by intro b hb; fin_cases b <;> first | rfl | exact absurd rfl hb) (by show p.val - 1 + 1 = p.val; omega)]
    exact flat_apply win c rr _ _ (by show p.val - 1 = rr.val * 128 + (x.val - 1); omega)

/-- The middle copy at row `rr`, column `x`: the window itself. -/
theorem midOf_apply (win : FVec Ideal S256x18x128 .f32) (c : Fin 256) (rr : Fin 18) (x : Fin 128) (p : Fin 2304)
    (hp : p.val = rr.val * 128 + x.val) : flat win (ix2 c p) = winPad win c rr (x.val + 1) := by
  rw [flat_apply win c rr x p hp, winPad, dif_pos (by omega)]
  rfl

/-- The right copy at row `rr`, column `x`: the window one column to the right. -/
theorem rightOf_apply (win : FVec Ideal S256x18x128 .f32) (c : Fin 256) (rr : Fin 18) (x : Fin 128) (p : Fin 2304)
    (hp : p.val = rr.val * 128 + x.val) : rightOf (flat win) (ix2 c p) = winPad win c rr (x.val + 2) := by
  have hx : p.val % 128 = x.val := by omega
  have hm : broadcastTo S256x2304 (shapeCast S1x2304 (cmpi .eq k0_pay5 (broadcast S1x2304 127#32)) shapeCasts_S1x2304_S1x2304)
      broadcasts_S1x2304_S256x2304 (ix2 c p) = if x.val = 127 then 1#1 else 0#1 := by
    rw [broadcastTo_apply _ _ _ (ix2 (0 : Fin 1) p) (by intro a; fin_cases a <;> rfl), shapeCast_self]
    show IntOp.cmpi .eq (k0_pay5 (ix2 (0 : Fin 1) p)) (BitVec.ofNat 32 127) = _
    rw [lane_apply, hx, laneEq _ _ x.isLt (by omega)]
  unfold rightOf k0_pay9
  rw [select_apply, hm]
  by_cases h0 : x.val = 127
  · rw [if_pos h0, select_one, winPad, dif_neg (by omega)]
    show Ideal.ofBits .bf16 0x0000#16 = 0
    simp [Ideal.ofBits, Ideal.ieee]
  · rw [if_neg h0, select_zero, winPad, dif_pos (by omega)]
    rw [extractStridedSlice_apply _ _ _ _ (ix2 c (⟨p.val + 1, by omega⟩ : Fin 2305)) (by intro a; fin_cases a; exacts [(Nat.zero_add _).symm, Nat.add_comm _ _]),
      concatenate_pair_apply_left (s₁ := S256x2304) (s₂ := S256x1) (t := S256x2305) 1 _ _ _ _ rfl (ix2 c (⟨p.val + 1, by omega⟩ : Fin 2304))
        (by intro b; fin_cases b <;> rfl)]
    exact flat_apply win c rr _ _ (by show p.val + 1 = rr.val * 128 + (x.val + 2 - 1); omega)

/-- One product at output channel `o`, position `q`. -/
theorem tap_apply (w : Vec Ideal S1x256x256 .bf16) (d : ℕ) (h : S256x2304.Slices ![0, d] S256x2048)
    (buf : FVec Ideal S256x2304 .bf16) (o : Fin 256) (q : Fin 2048) (hd : d + 2048 ≤ 2304) :
    tap w ![0, d] h buf (ix2 o q) = ∑ c : Fin 256, w (ix3 (0 : Fin 1) o c) * buf (ix2 c (⟨d + q.val, by omega⟩ : Fin 2304)) := by
  unfold tap
  refine (Ideal.matmul_plain_apply (M := 256) (K := 256) (N := 2048) none _ _ _ o q).trans ?_
  rw [constant_apply, Ideal.ofBits_zero_f32, zero_add]
  refine Finset.sum_congr rfl fun c _ => ?_
  rw [shapeCast_apply _ _ _ (ix3 (0 : Fin 1) o c) (by
      rw [Shape.rowMajor_val_three, Shape.rowMajor_val_two]
      show ((0 : ℕ) * 256 + o.val) * 256 + c.val = o.val * 256 + c.val
      omega),
    extractStridedSlice_apply _ _ _ _ (ix2 c (⟨d + q.val, by omega⟩ : Fin 2304)) (by intro a; fin_cases a <;> simp)]

/-- A tap's weights, loaded, at an index. -/
theorem ld_tap (x3 : Vec Ideal S9x256x256 .bf16) (k : Fin 9) (inb : ∀ a : Fin 3, (![k.val, 0, 0] : Fin 3 → ℕ) a + S1x256x256.size a ≤ S9x256x256.size a)
    (o c : Fin 256) : View.ld x3 (Rect.unit (s := S9x256x256) ![k.val, 0, 0] S1x256x256.size inb) (ix3 (0 : Fin 1) o c) = x3 (ix3 k o c) := by
  rw [View.ld_unit]
  exact extractStridedSlice_apply _ _ _ _ _ (by intro a; fin_cases a <;> simp)

/-- The nine products at output channel `o`, row `r`, column `x` of the chunk: a 3×3 window's sum. -/
theorem convSum_apply (win : FVec Ideal S256x18x128 .f32) (x3 : Vec Ideal S9x256x256 .bf16) (o : Fin 256) (r : Fin 16) (x : Fin 128)
    (q : Fin 2048) (hq : q.val = r.val * 128 + x.val) :
    convSum (flat win) x3 (ix2 o q)
      = sum9 fun dy dx => ∑ c : Fin 256, x3 (ix3 (⟨3 * dy.val + dx.val, by omega⟩ : Fin 9) o c)
          * winPad win c ⟨r.val + dy.val, by omega⟩ (x.val + dx.val) := by
  have key : ∀ (k : Fin 9) (dy dx : Fin 3) (d : ℕ) (h : S256x2304.Slices ![0, d] S256x2048) (buf : FVec Ideal S256x2304 .bf16)
      (inb : ∀ a : Fin 3, (![k.val, 0, 0] : Fin 3 → ℕ) a + S1x256x256.size a ≤ S9x256x256.size a)
      (_ : k.val = 3 * dy.val + dx.val) (hd : d = dy.val * 128)
      (_ : ∀ (c : Fin 256) (rr : Fin 18) (p : Fin 2304), p.val = rr.val * 128 + x.val → buf (ix2 c p) = winPad win c rr (x.val + dx.val)),
      tap (View.ld x3 (Rect.unit (s := S9x256x256) ![k.val, 0, 0] S1x256x256.size inb)) ![0, d] h buf (ix2 o q)
        = ∑ c : Fin 256, x3 (ix3 (⟨3 * dy.val + dx.val, by omega⟩ : Fin 9) o c) * winPad win c ⟨r.val + dy.val, by omega⟩ (x.val + dx.val) := by
    intro k dy dx d h buf inb hk hd hb
    rw [tap_apply _ _ _ _ _ _ (by omega)]
    refine Finset.sum_congr rfl fun c _ => ?_
    rw [ld_tap x3 k inb, hb c ⟨r.val + dy.val, by omega⟩ _ (by show d + q.val = (r.val + dy.val) * 128 + x.val; omega)]
    exact congrArg (fun z => x3 (ix3 z o c) * _) (Fin.ext hk)
  unfold convSum sum9
  simp only [addf_apply, broadcast_apply]
  rw [show (Scalar.ofBits .f32 0x00000000#32 : Ideal .f32) = 0 from Ideal.ofBits_zero_f32, zero_add]
  have hl := fun c rr p hp => leftOf_apply win c rr x p hp
  have hm := fun c rr p hp => midOf_apply win c rr x p hp
  have hr := fun c rr p hp => rightOf_apply win c rr x p hp
  have k0 := key 0 0 0 0 slices_S256x2304_o0_0_S256x2048 (leftOf (flat win)) inb_S9x256x256_S1x256x256_0_0_0 rfl rfl hl
  have k1 := key 1 0 1 0 slices_S256x2304_o0_0_S256x2048 (flat win) inb_S9x256x256_S1x256x256_1_0_0 rfl rfl hm
  have k2 := key 2 0 2 0 slices_S256x2304_o0_0_S256x2048 (rightOf (flat win)) inb_S9x256x256_S1x256x256_2_0_0 rfl rfl hr
  have k3 := key 3 1 0 128 slices_S256x2304_o0_128_S256x2048 (leftOf (flat win)) inb_S9x256x256_S1x256x256_3_0_0 rfl rfl hl
  have k4 := key 4 1 1 128 slices_S256x2304_o0_128_S256x2048 (flat win) inb_S9x256x256_S1x256x256_4_0_0 rfl rfl hm
  have k5 := key 5 1 2 128 slices_S256x2304_o0_128_S256x2048 (rightOf (flat win)) inb_S9x256x256_S1x256x256_5_0_0 rfl rfl hr
  have k6 := key 6 2 0 256 slices_S256x2304_o0_256_S256x2048 (leftOf (flat win)) inb_S9x256x256_S1x256x256_6_0_0 rfl rfl hl
  have k7 := key 7 2 1 256 slices_S256x2304_o0_256_S256x2048 (flat win) inb_S9x256x256_S1x256x256_7_0_0 rfl rfl hm
  have k8 := key 8 2 2 256 slices_S256x2304_o0_256_S256x2048 (rightOf (flat win)) inb_S9x256x256_S1x256x256_8_0_0 rfl rfl hr
  rw [← k0, ← k1, ← k2, ← k3, ← k4, ← k5, ← k6, ← k7, ← k8]
  rfl

/-- The convolution's bias column, loaded whole. -/
theorem ld_bias (x5 : Vec Ideal S256x1 .f32) : (shapeCast S256x1 (View.ld x5 r0_12) shapeCasts_S256x1_S256x1 : FVec Ideal S256x1 .f32) = x5 :=
  (shapeCast_self (s := S256x1) (View.ld x5 r0_12) _).trans (View.ld_unit_zero (by funext a; fin_cases a <;> rfl) _ x5)

/-- The heads' bias column, loaded whole. -/
theorem ld_headBias (x6 : Vec Ideal S48x1 .f32) : (shapeCast S48x1 (View.ld x6 r0_14) shapeCasts_S48x1_S48x1 : FVec Ideal S48x1 .f32) = x6 :=
  (shapeCast_self (s := S48x1) (View.ld x6 r0_14) _).trans (View.ld_unit_zero (by funext a; fin_cases a <;> rfl) _ x6)

/-- The heads' stacked weights, loaded whole. -/
theorem ld_headW (x4 : Vec Ideal S48x256 .bf16) : (shapeCast S48x256 (View.ld x4 r0_13) shapeCasts_S48x256_S48x256 : FVec Ideal S48x256 .bf16) = x4 :=
  (shapeCast_self (s := S48x256) (View.ld x4 r0_13) _).trans (View.ld_unit_zero (by funext a; fin_cases a <;> rfl) _ x4)

/-- The hidden map of a chunk at output channel `o`, row `r`, column `x`. -/
theorem hiddenOf_apply (win : FVec Ideal S256x18x128 .f32) (x3 : Vec Ideal S9x256x256 .bf16) (x5 : Vec Ideal S256x1 .f32)
    (o : Fin 256) (r : Fin 16) (x : Fin 128) (q : Fin 2048) (hq : q.val = r.val * 128 + x.val) :
    hiddenOf (flat win) x3 x5 (ix2 o q)
      = max ((sum9 fun dy dx => ∑ c : Fin 256, x3 (ix3 (⟨3 * dy.val + dx.val, by omega⟩ : Fin 9) o c)
          * winPad win c ⟨r.val + dy.val, by omega⟩ (x.val + dx.val)) + x5 (ix2 o 0)) 0 := by
  unfold hiddenOf
  rw [truncf_apply, maximumf_apply, addf_apply, broadcast_apply, convSum_apply win x3 o r x q hq,
    broadcastTo_apply _ _ _ (ix2 o (0 : Fin 1)) (by intro a; fin_cases a <;> rfl), ld_bias]
  exact congrArg (max _) Ideal.ofBits_zero_f32

/-- The heads of a chunk at row `j` of the stacked weights, row `r`, column `x`. -/
theorem headsOf_apply (win : FVec Ideal S256x18x128 .f32) (x3 : Vec Ideal S9x256x256 .bf16) (x4 : Vec Ideal S48x256 .bf16)
    (x5 : Vec Ideal S256x1 .f32) (x6 : Vec Ideal S48x1 .f32) (j : Fin 48) (r : Fin 16) (x : Fin 128) :
    headsOf win x3 x4 x5 x6 (ix3 j r x)
      = (∑ o : Fin 256, x4 (ix2 j o) * max ((sum9 fun dy dx => ∑ c : Fin 256, x3 (ix3 (⟨3 * dy.val + dx.val, by omega⟩ : Fin 9) o c)
          * winPad win c ⟨r.val + dy.val, by omega⟩ (x.val + dx.val)) + x5 (ix2 o 0)) 0) + x6 (ix2 j 0) := by
  unfold headsOf
  have hq : r.val * 128 + x.val < 2048 := by omega
  rw [shapeCast_apply _ _ _ (ix2 j (⟨r.val * 128 + x.val, hq⟩ : Fin 2048)) (by
    rw [Shape.rowMajor_val_three, Shape.rowMajor_val_two]
    show j.val * 2048 + (r.val * 128 + x.val) = (j.val * 16 + r.val) * 128 + x.val
    omega), addf_apply, broadcastTo_apply _ _ _ (ix2 j (0 : Fin 1)) (by intro a; fin_cases a <;> rfl),
    ld_headBias, ld_headW]
  refine congrArg (· + x6 (ix2 j 0)) ?_
  refine (Ideal.matmul_plain_apply (M := 48) (K := 256) (N := 2048) none _ _ _ j _).trans ?_
  rw [constant_apply, Ideal.ofBits_zero_f32, zero_add]
  exact Finset.sum_congr rfl fun o _ => by rw [hiddenOf_apply win x3 x5 o r x _ rfl]

/-- The class rows of a chunk at an index. -/
theorem clsOf_apply (u : FVec Ideal S48x16x128 .f32) (j : Fin 9) (r : Fin 16) (x : Fin 128) :
    clsOf u (ix4 (0 : Fin 1) j r x) = Ideal.logistic (u (ix3 (⟨j.val, by omega⟩ : Fin 48) r x)) := by
  unfold clsOf
  rw [shapeCast_apply _ _ _ (ix3 j r x) (by
    rw [Shape.rowMajor_val_three, Shape.rowMajor_val_four]
    show (j.val * 16 + r.val) * 128 + x.val = (((0 : ℕ) * 9 + j.val) * 16 + r.val) * 128 + x.val
    omega)]
  show Ideal.logistic (extractStridedSlice S9x16x128 ![0, 0, 0] u slices_S48x16x128_o0_0_0_S9x16x128 (ix3 j r x)) = _
  rw [extractStridedSlice_apply _ _ _ _ (ix3 (⟨j.val, by omega⟩ : Fin 48) r x) (by intro a; fin_cases a <;> simp)]

/-- The box rows of a chunk at an index. -/
theorem bboxOf_apply (u : FVec Ideal S48x16x128 .f32) (j : Fin 36) (r : Fin 16) (x : Fin 128) :
    bboxOf u (ix4 (0 : Fin 1) j r x) = u (ix3 (⟨9 + j.val, by omega⟩ : Fin 48) r x) := by
  unfold bboxOf
  rw [shapeCast_apply _ _ _ (ix3 j r x) (by
    rw [Shape.rowMajor_val_three, Shape.rowMajor_val_four]
    show (j.val * 16 + r.val) * 128 + x.val = (((0 : ℕ) * 36 + j.val) * 16 + r.val) * 128 + x.val
    omega),
    extractStridedSlice_apply _ _ _ _ (ix3 (⟨9 + j.val, by omega⟩ : Fin 48) r x) (by intro a; fin_cases a <;> simp)]

end Cert.KernelIdeal.Rpn

end
-- ==== Proof.Entry.lean ====
/- What the kernel's windows stage: the host's layout of the weights and biases before the region, read at an index, and
   each window's block at a grid point as the entries of its array. -/
module

public import proofs.«01_k».proof.Proof.ChunkValue
public import Idealize.ShloMosaic.Lib.KernelVsHost

@[expose] public section

noncomputable section

namespace Cert.KernelIdeal.Rpn

open Cert.KernelIdeal Cert.KernelIdeal.Gen Cert.Rpn Idealize.ShloMosaic Idealize.ShloMosaic.ValueIdx Idealize.ShloMosaic.TcCoe Idealize.SL.Sem

variable (m : (ℓ : Loc nD τ sig) → Buf (Elt Ideal) ℓ) (c : Dev nD)

/-- The feature map as launched. -/
abbrev argX : Feat := m ((c : Thread nD τ).loc main_arg0)
/-- The 3×3 weights as launched. -/
abbrev argW : ConvW := m ((c : Thread nD τ).loc main_arg1)
/-- The convolution's bias as launched. -/
abbrev argB : Bias 256 := m ((c : Thread nD τ).loc main_arg2)
/-- The class head's weights as launched. -/
abbrev argWc : HeadW 9 := m ((c : Thread nD τ).loc main_arg3)
/-- The class head's bias as launched. -/
abbrev argBc : Bias 9 := m ((c : Thread nD τ).loc main_arg4)
/-- The box head's weights as launched. -/
abbrev argWb : HeadW 36 := m ((c : Thread nD τ).loc main_arg5)
/-- The box head's bias as launched. -/
abbrev argBb : Bias 36 := m ((c : Thread nD τ).loc main_arg6)

/-! ## The arrays the host lays out -/

/-- The nine taps' weights: the two offsets moved to the front and merged. -/
theorem V_taps : V m c main_v2 = (truncf .bf16 (shapeCast S9x256x256 (transpose S3x3x256x256 [2, 3, 0, 1] (m ((c : Thread nD τ).loc main_arg1))
    transposes_S256x256x3x3_S3x3x256x256_2_3_0_1 : FVec Ideal S3x3x256x256 .f32) shapeCasts_S3x3x256x256_S9x256x256) bitsLt_bf16_f32 : FVec Ideal S9x256x256 .bf16) := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append,
    List.nil_append, StableHlo.TRef.binary, StableHlo.TRef.nullary, StableHlo.TRef.unary, StableHlo.TRef.toBuf, StableHlo.TRef.ofBuf, cast_eq]
  after_results_simp <;> rfl

/-- The heads' weights stacked and padded with three zero rows. -/
theorem V_headW : V m c main_v7 = (truncf .bf16 (pad S48x256 ![0, 0] ![3, 0] ![0, 0]
    (concatenate S45x256 0 [⟨S9x256, (shapeCast S9x256 (m ((c : Thread nD τ).loc main_arg3)) shapeCasts_S9x256x1x1_S9x256 : FVec Ideal S9x256 .f32)⟩,
      ⟨S36x256, shapeCast S36x256 (m ((c : Thread nD τ).loc main_arg5)) shapeCasts_S36x256x1x1_S36x256⟩] concatenates_S9x256_S36x256_S45x256_d0)
    (sitofp .f32 (constantI S_ 32 0#32) : FVec Ideal S_ .f32) pads_S45x256_S48x256_030_000 h_S_) bitsLt_bf16_f32 : FVec Ideal S48x256 .bf16) := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append,
    List.nil_append, StableHlo.TRef.binary, StableHlo.TRef.nullary, StableHlo.TRef.unary, StableHlo.TRef.toBuf, StableHlo.TRef.ofBuf, cast_eq]
  after_results_simp <;> rfl

/-- The convolution's bias as a column. -/
theorem V_bias : V m c main_v8 = (shapeCast S256x1 (m ((c : Thread nD τ).loc main_arg2)) shapeCasts_S256_S256x1 : FVec Ideal S256x1 .f32) := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append,
    List.nil_append, StableHlo.TRef.binary, StableHlo.TRef.nullary, StableHlo.TRef.unary, StableHlo.TRef.toBuf, StableHlo.TRef.ofBuf, cast_eq]
  after_results_simp <;> rfl

/-- The heads' biases stacked, padded and turned into a column. -/
theorem V_headB : V m c main_v11 = (shapeCast S48x1 (pad S48 ![0] ![3] ![0]
    (concatenate S45 0 [⟨S9, (m ((c : Thread nD τ).loc main_arg4) : FVec Ideal S9 .f32)⟩, ⟨S36, m ((c : Thread nD τ).loc main_arg6)⟩] concatenates_S9_S36_S45_d0)
    (sitofp .f32 (constantI S_ 32 0#32) : FVec Ideal S_ .f32) pads_S45_S48_030 h_S_) shapeCasts_S48_S48x1 : FVec Ideal S48x1 .f32) := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append,
    List.nil_append, StableHlo.TRef.binary, StableHlo.TRef.nullary, StableHlo.TRef.unary, StableHlo.TRef.toBuf, StableHlo.TRef.ofBuf, cast_eq]
  after_results_simp <;> rfl

/-! ## The same, read at an index -/

/-- Tap `3·dy + dx` at output channel `o`, input channel `k`. -/
theorem taps_apply (dy dx : Fin 3) (o k : Fin 256) :
    (V m c main_v2 : FVec Ideal S9x256x256 .bf16) (ix3 (⟨3 * dy.val + dx.val, by omega⟩ : Fin 9) o k) = argW m c (ix4 o k dy dx) := by
  rw [V_taps, truncf_apply, shapeCast_apply _ _ _ (ix4 dy dx o k) (by
    rw [Shape.rowMajor_val_three, Shape.rowMajor_val_four]
    show ((dy.val * 3 + dx.val) * 256 + o.val) * 256 + k.val = ((3 * dy.val + dx.val) * 256 + o.val) * 256 + k.val
    omega), transpose_apply _ _ _ _ (ix4 o k dy dx) (by intro b; fin_cases b <;> rfl)]

/-- The first nine rows of the stacked weights are the class head's. -/
theorem headW_cls (j : Fin 9) (o : Fin 256) :
    (V m c main_v7 : FVec Ideal S48x256 .bf16) (ix2 (⟨j.val, by omega⟩ : Fin 48) o) = argWc m c (ix4 j o 0 0) := by
  rw [V_headW, truncf_apply, pad_apply_of_inside _ _ _ _ _ _ _ _ (ix2 (⟨j.val, by omega⟩ : Fin 45) o) (by intro a; fin_cases a <;> simp),
    concatenate_pair_apply_left (s₁ := S9x256) (s₂ := S36x256) (t := S45x256) 0 _ _ _ _ rfl (ix2 j o) (by intro b; fin_cases b <;> rfl),
    shapeCast_apply _ _ _ (ix4 j o (0 : Fin 1) (0 : Fin 1)) (by
      rw [Shape.rowMajor_val_two, Shape.rowMajor_val_four]
      show ((j.val * 256 + o.val) * 1 + 0) * 1 + 0 = j.val * 256 + o.val
      omega)]

/-- The next thirty-six are the box head's. -/
theorem headW_bbox (j : Fin 36) (o : Fin 256) :
    (V m c main_v7 : FVec Ideal S48x256 .bf16) (ix2 (⟨9 + j.val, by omega⟩ : Fin 48) o) = argWb m c (ix4 j o 0 0) := by
  rw [V_headW, truncf_apply, pad_apply_of_inside _ _ _ _ _ _ _ _ (ix2 (⟨9 + j.val, by omega⟩ : Fin 45) o) (by intro a; fin_cases a <;> simp),
    concatenate_pair_apply_right (s₁ := S9x256) (s₂ := S36x256) (t := S45x256) 0 _ _ _ _ rfl rfl (ix2 j o)
      (by intro b hb; fin_cases b <;> first | rfl | exact absurd rfl hb) (by show j.val + 9 = 9 + j.val; omega),
    shapeCast_apply _ _ _ (ix4 j o (0 : Fin 1) (0 : Fin 1)) (by
      rw [Shape.rowMajor_val_two, Shape.rowMajor_val_four]
      show ((j.val * 256 + o.val) * 1 + 0) * 1 + 0 = j.val * 256 + o.val
      omega)]

/-- The bias column is the bias. -/
theorem bias_apply (o : Fin 256) : (V m c main_v8 : FVec Ideal S256x1 .f32) (ix2 o (0 : Fin 1)) = argB m c (ix1 o) := by
  rw [V_bias, shapeCast_apply _ _ _ (ix1 o) (by
    rw [Shape.rowMajor_val_two, Shape.rowMajor_val_one]
    show o.val = o.val * 1 + 0
    omega)]

/-- The first nine entries of the stacked biases are the class head's. -/
theorem headB_cls (j : Fin 9) : (V m c main_v11 : FVec Ideal S48x1 .f32) (ix2 (⟨j.val, by omega⟩ : Fin 48) (0 : Fin 1)) = argBc m c (ix1 j) := by
  rw [V_headB, shapeCast_apply _ _ _ (ix1 (⟨j.val, by omega⟩ : Fin 48)) (by
      rw [Shape.rowMajor_val_two, Shape.rowMajor_val_one]
      show j.val = j.val * 1 + 0
      omega),
    pad_apply_of_inside _ _ _ _ _ _ _ _ (ix1 (⟨j.val, by omega⟩ : Fin 45)) (by intro a; fin_cases a; simp),
    concatenate_pair_apply_left (s₁ := S9) (s₂ := S36) (t := S45) 0 _ _ _ _ rfl (ix1 j) (by intro b; fin_cases b; rfl)]

/-- The next thirty-six are the box head's. -/
theorem headB_bbox (j : Fin 36) : (V m c main_v11 : FVec Ideal S48x1 .f32) (ix2 (⟨9 + j.val, by omega⟩ : Fin 48) (0 : Fin 1)) = argBb m c (ix1 j) := by
  rw [V_headB, shapeCast_apply _ _ _ (ix1 (⟨9 + j.val, by omega⟩ : Fin 48)) (by
      rw [Shape.rowMajor_val_two, Shape.rowMajor_val_one]
      show 9 + j.val = (9 + j.val) * 1 + 0
      omega),
    pad_apply_of_inside _ _ _ _ _ _ _ _ (ix1 (⟨9 + j.val, by omega⟩ : Fin 45)) (by intro a; fin_cases a; simp),
    concatenate_pair_apply_right (s₁ := S9) (s₂ := S36) (t := S45) 0 _ _ _ _ rfl rfl (ix1 j)
      (by intro b hb; fin_cases b; exact absurd rfl hb) (by show j.val + 9 = 9 + j.val; omega)]

/-! ## The blocks -/

/-- Grid point `t` is image `t / 2`, half `t % 2`: the index maps there, and the half as the body reads it. -/
theorem idx_facts : ∀ t : Fin cfg0.N,
    (win0_0.index t = ![t.val / 2, 0, t.val % 2, 0] ∧ win0_1.index t = ![t.val / 2, 0, 7 * (t.val % 2), 0]
      ∧ win0_2.index t = ![t.val / 2, 0, 8 + 7 * (t.val % 2), 0])
    ∧ (win0_3.index t = ![0, 0, 0] ∧ win0_4.index t = ![0, 0] ∧ win0_5.index t = ![0, 0] ∧ win0_6.index t = ![0, 0])
    ∧ (win0_7.index t = ![t.val / 2, 0, t.val % 2, 0] ∧ win0_8.index t = ![t.val / 2, 0, t.val % 2, 0])
    ∧ (grid0.coords t 1).val = t.val % 2 :=
  (by decide +kernel : ∀ t : Fin grid0.N, _)

/-- The image of a grid point. -/
def img (t : Fin cfg0.N) : Fin 8 := ⟨t.val / 2, by have h : t.val < 16 := t.isLt; omega⟩

/-- The main window's block: sixty-four rows of the point's half. -/
theorem blk0 (t : Fin cfg0.N) (k : Fin 256) (y : Fin 64) (x : Fin 128) :
    (iblk m c 0 t : Vec Ideal S1x256x64x128 .f32) (ix4 (0 : Fin 1) k y x)
      = argX m c (ix4 (img t) k (⟨64 * (t.val % 2) + y.val, by omega⟩ : Fin 128) x) := by
  have e := (idx_facts t).1.1
  show V m c main_arg0 (((cfg0.win 0).blk t).view.emb (ix4 (0 : Fin 1) k y x)) = _
  rw [V_main_arg0]
  refine congrArg (m ((c : Thread nD τ).loc main_arg0)) (funext fun a => Fin.ext ?_)
  match a with
  | ⟨0, _⟩ => show win0_0.index t 0 * 1 + 1 * 0 = t.val / 2; rw [e]; show t.val / 2 * 1 + 1 * 0 = t.val / 2; omega
  | ⟨1, _⟩ => show win0_0.index t 1 * 256 + 1 * k.val = k.val; rw [e]; show 0 * 256 + 1 * k.val = k.val; omega
  | ⟨2, _⟩ => show win0_0.index t 2 * 64 + 1 * y.val = 64 * (t.val % 2) + y.val; rw [e]; show t.val % 2 * 64 + 1 * y.val = _; omega
  | ⟨3, _⟩ => show win0_0.index t 3 * 128 + 1 * x.val = x.val; rw [e]; show 0 * 128 + 1 * x.val = x.val; omega

/-- The upper neighbour's block. -/
theorem blk1 (t : Fin cfg0.N) (k : Fin 256) (y : Fin 8) (x : Fin 128) :
    (iblk m c 1 t : Vec Ideal S1x256x8x128 .f32) (ix4 (0 : Fin 1) k y x)
      = argX m c (ix4 (img t) k (⟨56 * (t.val % 2) + y.val, by omega⟩ : Fin 128) x) := by
  have e := (idx_facts t).1.2.1
  show V m c main_arg0 (((cfg0.win 1).blk t).view.emb (ix4 (0 : Fin 1) k y x)) = _
  rw [V_main_arg0]
  refine congrArg (m ((c : Thread nD τ).loc main_arg0)) (funext fun a => Fin.ext ?_)
  match a with
  | ⟨0, _⟩ => show win0_1.index t 0 * 1 + 1 * 0 = t.val / 2; rw [e]; show t.val / 2 * 1 + 1 * 0 = t.val / 2; omega
  | ⟨1, _⟩ => show win0_1.index t 1 * 256 + 1 * k.val = k.val; rw [e]; show 0 * 256 + 1 * k.val = k.val; omega
  | ⟨2, _⟩ => show win0_1.index t 2 * 8 + 1 * y.val = 56 * (t.val % 2) + y.val; rw [e]; show 7 * (t.val % 2) * 8 + 1 * y.val = _; omega
  | ⟨3, _⟩ => show win0_1.index t 3 * 128 + 1 * x.val = x.val; rw [e]; show 0 * 128 + 1 * x.val = x.val; omega

/-- The lower neighbour's block. -/
theorem blk2 (t : Fin cfg0.N) (k : Fin 256) (y : Fin 8) (x : Fin 128) :
    (iblk m c 2 t : Vec Ideal S1x256x8x128 .f32) (ix4 (0 : Fin 1) k y x)
      = argX m c (ix4 (img t) k (⟨64 + 56 * (t.val % 2) + y.val, by omega⟩ : Fin 128) x) := by
  have e := (idx_facts t).1.2.2
  show V m c main_arg0 (((cfg0.win 2).blk t).view.emb (ix4 (0 : Fin 1) k y x)) = _
  rw [V_main_arg0]
  refine congrArg (m ((c : Thread nD τ).loc main_arg0)) (funext fun a => Fin.ext ?_)
  match a with
  | ⟨0, _⟩ => show win0_2.index t 0 * 1 + 1 * 0 = t.val / 2; rw [e]; show t.val / 2 * 1 + 1 * 0 = t.val / 2; omega
  | ⟨1, _⟩ => show win0_2.index t 1 * 256 + 1 * k.val = k.val; rw [e]; show 0 * 256 + 1 * k.val = k.val; omega
  | ⟨2, _⟩ => show win0_2.index t 2 * 8 + 1 * y.val = 64 + 56 * (t.val % 2) + y.val; rw [e]; show (8 + 7 * (t.val % 2)) * 8 + 1 * y.val = _; omega
  | ⟨3, _⟩ => show win0_2.index t 3 * 128 + 1 * x.val = x.val; rw [e]; show 0 * 128 + 1 * x.val = x.val; omega

/-- The taps' block is their whole array. -/
theorem blk3 (t : Fin cfg0.N) : (iblk m c 3 t : Vec Ideal S9x256x256 .bf16) = V m c main_v2 := by
  have e := (idx_facts t).2.1.1
  funext j
  show V m c main_v2 (((cfg0.win 3).blk t).view.emb j) = V m c main_v2 j
  refine congrArg (V m c main_v2) (funext fun a => Fin.ext ?_)
  match a with
  | ⟨0, _⟩ => show win0_3.index t 0 * 9 + 1 * (j 0).val = (j 0).val; rw [e]; show 0 * 9 + 1 * (j 0).val = _; omega
  | ⟨1, _⟩ => show win0_3.index t 1 * 256 + 1 * (j 1).val = (j 1).val; rw [e]; show 0 * 256 + 1 * (j 1).val = _; omega
  | ⟨2, _⟩ => show win0_3.index t 2 * 256 + 1 * (j 2).val = (j 2).val; rw [e]; show 0 * 256 + 1 * (j 2).val = _; omega

/-- The stacked weights' block is their whole array. -/
theorem blk4 (t : Fin cfg0.N) : (iblk m c 4 t : Vec Ideal S48x256 .bf16) = V m c main_v7 := by
  have e := (idx_facts t).2.1.2.1
  funext j
  show V m c main_v7 (((cfg0.win 4).blk t).view.emb j) = V m c main_v7 j
  refine congrArg (V m c main_v7) (funext fun a => Fin.ext ?_)
  match a with
  | ⟨0, _⟩ => show win0_4.index t 0 * 48 + 1 * (j 0).val = (j 0).val; rw [e]; show 0 * 48 + 1 * (j 0).val = _; omega
  | ⟨1, _⟩ => show win0_4.index t 1 * 256 + 1 * (j 1).val = (j 1).val; rw [e]; show 0 * 256 + 1 * (j 1).val = _; omega

/-- The bias column's block is its whole array. -/
theorem blk5 (t : Fin cfg0.N) : (iblk m c 5 t : Vec Ideal S256x1 .f32) = V m c main_v8 := by
  have e := (idx_facts t).2.1.2.2.1
  funext j
  show V m c main_v8 (((cfg0.win 5).blk t).view.emb j) = V m c main_v8 j
  refine congrArg (V m c main_v8) (funext fun a => Fin.ext ?_)
  match a with
  | ⟨0, _⟩ => show win0_5.index t 0 * 256 + 1 * (j 0).val = (j 0).val; rw [e]; show 0 * 256 + 1 * (j 0).val = _; omega
  | ⟨1, _⟩ => show win0_5.index t 1 * 1 + 1 * (j 1).val = (j 1).val; rw [e]; show 0 * 1 + 1 * (j 1).val = _; omega

/-- The stacked biases' block is their whole array. -/
theorem blk6 (t : Fin cfg0.N) : (iblk m c 6 t : Vec Ideal S48x1 .f32) = V m c main_v11 := by
  have e := (idx_facts t).2.1.2.2.2
  funext j
  show V m c main_v11 (((cfg0.win 6).blk t).view.emb j) = V m c main_v11 j
  refine congrArg (V m c main_v11) (funext fun a => Fin.ext ?_)
  match a with
  | ⟨0, _⟩ => show win0_6.index t 0 * 48 + 1 * (j 0).val = (j 0).val; rw [e]; show 0 * 48 + 1 * (j 0).val = _; omega
  | ⟨1, _⟩ => show win0_6.index t 1 * 1 + 1 * (j 1).val = (j 1).val; rw [e]; show 0 * 1 + 1 * (j 1).val = _; omega

end Cert.KernelIdeal.Rpn

end
-- ==== Proof.Rows.lean ====
/- The four windows of a grid point are eighteen consecutive rows of the padded feature map, so a chunk's heads are the
   heads of the specification at its sixteen rows. -/
module

public import proofs.«01_k».proof.Proof.Entry

@[expose] public section

noncomputable section

namespace Cert.KernelIdeal.Rpn

open Cert.KernelIdeal Cert.KernelIdeal.Gen Cert.Rpn Idealize.ShloMosaic Idealize.ShloMosaic.ValueIdx Idealize.ShloMosaic.TcCoe Idealize.SL.Sem

/-- The window holds rows `s, s+1, …, s+17` of the padded map of image `b`. -/
def IsRows (win : FVec Ideal S256x18x128 .f32) (X : Feat) (b : Fin 8) (s : ℕ) : Prop :=
  ∀ (k : Fin 256) (rr : Fin 18) (x : Fin 128), win (ix3 k rr x) = padded X b k (s + rr.val) (x.val + 1)

/-- Inside the image the padded map is the map. -/
theorem padded_in (X : Feat) (b : Fin 8) (k : Fin 256) (y x : Fin 128) (yy : ℕ) (h : yy = y.val + 1) :
    padded X b k yy (x.val + 1) = X (ix4 b k y x) := by
  subst h
  unfold padded
  rw [dif_pos ⟨⟨by omega, by omega⟩, by omega, by omega⟩]
  rfl

/-- Above and below the image the padded map is zero. -/
theorem padded_out (X : Feat) (b : Fin 8) (k : Fin 256) (yy xx : ℕ) (h : yy = 0 ∨ yy = 129) : padded X b k yy xx = 0 := by
  unfold padded
  rw [dif_neg]
  rintro ⟨⟨h1, h2⟩, -⟩
  omega

/-- With the zero columns added the window is still the padded map. -/
theorem IsRows.winPad {win : FVec Ideal S256x18x128 .f32} {X : Feat} {b : Fin 8} {s : ℕ} (h : IsRows win X b s) (k : Fin 256) (rr : Fin 18)
    (xx : ℕ) : winPad win k rr xx = padded X b k (s + rr.val) xx := by
  unfold Rpn.winPad
  split
  · next hx =>
    rw [h]
    show padded X b k (s + rr.val) (xx - 1 + 1) = _
    rw [show xx - 1 + 1 = xx by omega]
  · next hx =>
    unfold padded
    rw [dif_neg fun e => hx e.2]

/-- A chunk whose window is rows `s …` of the padded map: its heads at row `r` are the 1×1 convolution of the hidden map at
    image row `s + r`. -/
theorem IsRows.heads {win : FVec Ideal S256x18x128 .f32} {X : Feat} {b : Fin 8} {s : ℕ} (h : IsRows win X b s) (W : ConvW) (β : Bias 256)
    (x3 : Vec Ideal S9x256x256 .bf16) (x4 : Vec Ideal S48x256 .bf16) (x5 : Vec Ideal S256x1 .f32) (x6 : Vec Ideal S48x1 .f32)
    (h3 : ∀ (dy dx : Fin 3) (o k : Fin 256), x3 (ix3 (⟨3 * dy.val + dx.val, by omega⟩ : Fin 9) o k) = W (ix4 o k dy dx))
    (h5 : ∀ o : Fin 256, x5 (ix2 o (0 : Fin 1)) = β (ix1 o)) (j : Fin 48) (r : Fin 16) (x : Fin 128) :
    headsOf win x3 x4 x5 x6 (ix3 j r x) = (∑ o : Fin 256, x4 (ix2 j o) * Cert.Rpn.hidden X W β b o (s + r.val) x.val) + x6 (ix2 j (0 : Fin 1)) := by
  rw [headsOf_apply]
  refine congrArg (· + _) (Finset.sum_congr rfl fun o _ => congrArg (x4 (ix2 j o) * ·) ?_)
  unfold Cert.Rpn.hidden conv
  rw [h5]
  refine congrArg (fun u => max (u + β (ix1 o)) 0) (sum9_congr fun dy dx => Finset.sum_congr rfl fun k _ => ?_)
  rw [h3, h.winPad]
  show _ * padded X b k (s + (r.val + dy.val)) _ = _
  rw [Nat.add_assoc]

/-- Rows `off …` of a block, the leading axis dropped. -/
theorem ld_rows (H n off : ℕ) (x0 : Vec Ideal (⟨4, ![1, 256, H, 128]⟩ : Shape) .f32)
    (inb : ∀ a : Fin 4, (![0, 0, off, 0] : Fin 4 → ℕ) a + (⟨4, ![1, 256, n, 128]⟩ : Shape).size a ≤ (⟨4, ![1, 256, H, 128]⟩ : Shape).size a)
    (hc : (⟨4, ![1, 256, n, 128]⟩ : Shape).ShapeCasts ⟨3, ![256, n, 128]⟩) (k : Fin 256) (rr : Fin n) (y : Fin H) (x : Fin 128)
    (hy : y.val = off + rr.val) :
    (shapeCast (s := ⟨4, ![1, 256, n, 128]⟩) (⟨3, ![256, n, 128]⟩ : Shape)
      (View.ld x0 (Rect.unit (s := ⟨4, ![1, 256, H, 128]⟩) ![0, 0, off, 0] (⟨4, ![1, 256, n, 128]⟩ : Shape).size inb)) hc : FVec Ideal _ .f32)
        (ix3 k rr x) = x0 (ix4 (0 : Fin 1) k y x) := by
  rw [shapeCast_apply _ _ _ (ix4 (0 : Fin 1) k rr x) (by
    rw [Shape.rowMajor_val_three, Shape.rowMajor_val_four]
    show ((0 * 256 + k.val) * n + rr.val) * 128 + x.val = (k.val * n + rr.val) * 128 + x.val
    rw [Nat.zero_mul, Nat.zero_add])]
  refine congrArg x0 (funext fun a => Fin.ext ?_)
  match a with
  | ⟨0, _⟩ => rfl
  | ⟨1, _⟩ => show 0 + 1 * k.val = k.val; omega
  | ⟨2, _⟩ => show off + 1 * rr.val = y.val; omega
  | ⟨3, _⟩ => show 0 + 1 * x.val = x.val; omega

/-- The body's test for a row above the block: the half is not the first. -/
theorem above : ∀ n : Fin 2, Scalar.cmpi .sgt (BitVec.ofNat 32 n.val) 0#32 = if n.val = 0 then 0#1 else 1#1 := by decide +kernel

/-- The body's test for a row below the block: the half is not the last. -/
theorem below : ∀ n : Fin 2, Scalar.cmpi .slt (BitVec.ofNat 32 n.val) 1#32 = if n.val = 0 then 1#1 else 0#1 := by decide +kernel

variable (m : (ℓ : Loc nD τ sig) → Buf (Elt Ideal) ℓ) (c : Dev nD) (t : Fin cfg0.N)

/-- The first chunk's window. -/
theorem rows0 : IsRows (win0 (grid0.coords t) (iblk m c 0 t) (iblk m c 1 t)) (argX m c) (img t) (64 * (t.val % 2)) := by
  intro k rr x
  have ht : (grid0.coords t 1).val = t.val % 2 := (idx_facts t).2.2.2
  unfold win0
  by_cases hr : rr.val = 0
  · rw [concatenate_pair_apply_left (s₁ := S256x1x128) (s₂ := S256x17x128) (t := S256x18x128) 1 _ _ _ _ rfl (ix3 k (0 : Fin 1) x)
      (by intro b; fin_cases b <;> first | rfl | exact hr.symm), above (grid0.coords t 1)]
    by_cases h0 : t.val % 2 = 0
    · rw [if_pos (ht.trans h0), padded_out _ _ _ _ _ (Or.inl (by omega))]
      exact Ideal.ofBits_zero_f32
    · rw [if_neg (fun e => h0 (ht.symm.trans e)), padded_in _ _ _ (⟨63, by omega⟩ : Fin 128) x _ (by show _ = 63 + 1; omega)]
      refine (ld_rows 8 1 7 (iblk m c 1 t) _ _ k 0 (7 : Fin 8) x rfl).trans ((blk1 m c t k 7 x).trans ?_)
      refine congrArg (fun y => argX m c (ix4 (img t) k y x)) (Fin.ext ?_)
      show 56 * (t.val % 2) + 7 = 63
      omega
  · rw [concatenate_pair_apply_right (s₁ := S256x1x128) (s₂ := S256x17x128) (t := S256x18x128) 1 _ _ _ _ rfl rfl
      (ix3 k (⟨rr.val - 1, by omega⟩ : Fin 17) x) (by intro b hb; fin_cases b <;> first | rfl | exact absurd rfl hb)
      (by show rr.val - 1 + 1 = rr.val; omega),
      padded_in _ _ _ (⟨64 * (t.val % 2) + (rr.val - 1), by omega⟩ : Fin 128) x _ (by show _ = 64 * (t.val % 2) + (rr.val - 1) + 1; omega)]
    exact (ld_rows 64 17 0 (iblk m c 0 t) _ _ k (⟨rr.val - 1, by omega⟩ : Fin 17) (⟨rr.val - 1, by omega⟩ : Fin 64) x
      (by show rr.val - 1 = 0 + (rr.val - 1); omega)).trans (blk0 m c t k _ x)

/-- The second chunk's window. -/
theorem rows1 : IsRows (win1 (iblk m c 0 t)) (argX m c) (img t) (64 * (t.val % 2) + 16) := by
  intro k rr x
  rw [padded_in _ _ _ (⟨64 * (t.val % 2) + (15 + rr.val), by omega⟩ : Fin 128) x _ (by show _ = 64 * (t.val % 2) + (15 + rr.val) + 1; omega)]
  exact (ld_rows 64 18 15 (iblk m c 0 t) _ _ k rr (⟨15 + rr.val, by omega⟩ : Fin 64) x rfl).trans (blk0 m c t k _ x)

/-- The third chunk's window. -/
theorem rows2 : IsRows (win2 (iblk m c 0 t)) (argX m c) (img t) (64 * (t.val % 2) + 32) := by
  intro k rr x
  rw [padded_in _ _ _ (⟨64 * (t.val % 2) + (31 + rr.val), by omega⟩ : Fin 128) x _ (by show _ = 64 * (t.val % 2) + (31 + rr.val) + 1; omega)]
  exact (ld_rows 64 18 31 (iblk m c 0 t) _ _ k rr (⟨31 + rr.val, by omega⟩ : Fin 64) x rfl).trans (blk0 m c t k _ x)

/-- The last chunk's window. -/
theorem rows3 : IsRows (win3 (grid0.coords t) (iblk m c 0 t) (iblk m c 2 t)) (argX m c) (img t) (64 * (t.val % 2) + 48) := by
  intro k rr x
  have ht : (grid0.coords t 1).val = t.val % 2 := (idx_facts t).2.2.2
  unfold win3
  by_cases hr : rr.val = 17
  · rw [concatenate_pair_apply_right (s₁ := S256x17x128) (s₂ := S256x1x128) (t := S256x18x128) 1 _ _ _ _ rfl rfl (ix3 k (0 : Fin 1) x)
      (by intro b hb; fin_cases b <;> first | rfl | exact absurd rfl hb) (by show 0 + 17 = rr.val; omega), below (grid0.coords t 1)]
    by_cases h0 : t.val % 2 = 0
    · rw [if_pos (ht.trans h0), padded_in _ _ _ (⟨64, by omega⟩ : Fin 128) x _ (by show _ = 64 + 1; omega)]
      refine (ld_rows 8 1 0 (iblk m c 2 t) _ _ k 0 (0 : Fin 8) x rfl).trans ((blk2 m c t k 0 x).trans ?_)
      refine congrArg (fun y => argX m c (ix4 (img t) k y x)) (Fin.ext ?_)
      show 64 + 56 * (t.val % 2) + 0 = 64
      omega
    · rw [if_neg (fun e => h0 (ht.symm.trans e)), padded_out _ _ _ _ _ (Or.inr (by omega))]
      exact Ideal.ofBits_zero_f32
  · rw [concatenate_pair_apply_left (s₁ := S256x17x128) (s₂ := S256x1x128) (t := S256x18x128) 1 _ _ _ _ rfl
      (ix3 k (⟨rr.val, by omega⟩ : Fin 17) x) (by intro b; fin_cases b <;> rfl),
      padded_in _ _ _ (⟨64 * (t.val % 2) + (47 + rr.val), by omega⟩ : Fin 128) x _ (by show _ = 64 * (t.val % 2) + (47 + rr.val) + 1; omega)]
    exact (ld_rows 64 17 47 (iblk m c 0 t) _ _ k (⟨rr.val, by omega⟩ : Fin 17) (⟨47 + rr.val, by omega⟩ : Fin 64) x rfl).trans
      (blk0 m c t k _ x)

end Cert.KernelIdeal.Rpn

end
-- ==== Proof.Output.lean ====
/- The kernel's two result arrays after the run: the class scores and the box regressions of the specification at the
   arguments as launched. -/
module

public import proofs.«01_k».proof.Proof.Rows

@[expose] public section

noncomputable section

namespace Cert.KernelIdeal.Rpn

open Cert.KernelIdeal Cert.KernelIdeal.Gen Cert.KernelIdeal.Value Cert.Rpn Idealize.ShloMosaic Idealize.ShloMosaic.ValueIdx Idealize.ShloMosaic.TcCoe Idealize.SL.Sem

/-! ## A block of results: the specification at image `b`, from row `s` on -/

/-- The class scores of a block. -/
def clsBlk (X : Feat) (W : ConvW) (β : Bias 256) (U : HeadW 9) (γ : Bias 9) (b : Fin 8) (s : ℕ) (y : S1x9x64x128.Idx) : EReal :=
  Ideal.logistic (head X W β U γ b (y 1) (s + (y 2).val) (y 3).val)

/-- The box regressions of a block. -/
def bboxBlk (X : Feat) (W : ConvW) (β : Bias 256) (U : HeadW 36) (γ : Bias 36) (b : Fin 8) (s : ℕ) (y : S1x36x64x128.Idx) : EReal :=
  head X W β U γ b (y 1) (s + (y 2).val) (y 3).val

section Stores

variable {win : FVec Ideal S256x18x128 .f32} {X : Feat} {b : Fin 8} {s d : ℕ} (h : IsRows win X b (s + d)) (W : ConvW) (β : Bias 256)
  (x3 : Vec Ideal S9x256x256 .bf16) (x4 : Vec Ideal S48x256 .bf16) (x5 : Vec Ideal S256x1 .f32) (x6 : Vec Ideal S48x1 .f32)
  (h3 : ∀ (dy dx : Fin 3) (o k : Fin 256), x3 (ix3 (⟨3 * dy.val + dx.val, by omega⟩ : Fin 9) o k) = W (ix4 o k dy dx))
  (h5 : ∀ o : Fin 256, x5 (ix2 o (0 : Fin 1)) = β (ix1 o))

include h h3 h5

/-- The class rows stored from row `d` of the block are the block's. -/
theorem cls_store (U : HeadW 9) (γ : Bias 9) (h4 : ∀ (j : Fin 9) (o : Fin 256), x4 (ix2 (⟨j.val, by omega⟩ : Fin 48) o) = U (ix4 j o 0 0))
    (h6 : ∀ j : Fin 9, x6 (ix2 (⟨j.val, by omega⟩ : Fin 48) (0 : Fin 1)) = γ (ix1 j))
    (inb : ∀ a : Fin 4, (![0, 0, d, 0] : Fin 4 → ℕ) a + S1x9x16x128.size a ≤ S1x9x64x128.size a) (y : S1x9x16x128.Idx) :
    clsOf (headsOf win x3 x4 x5 x6) y
      = clsBlk X W β U γ b s ((Rect.unit (s := S1x9x64x128) ![0, 0, d, 0] S1x9x16x128.size inb).emb y) := by
  have hy : y = ix4 (0 : Fin 1) (y 1 : Fin 9) (y 2 : Fin 16) (y 3 : Fin 128) := by
    funext a
    match a with
    | ⟨0, _⟩ => exact Subsingleton.elim (α := Fin 1) _ _
    | ⟨1, _⟩ => rfl
    | ⟨2, _⟩ => rfl
    | ⟨3, _⟩ => rfl
  have e1 : (Rect.unit (s := S1x9x64x128) ![0, 0, d, 0] S1x9x16x128.size inb).emb y 1 = y 1 :=
    Fin.ext (by show 0 + 1 * (y 1).val = (y 1).val; omega)
  have e2 : ((Rect.unit (s := S1x9x64x128) ![0, 0, d, 0] S1x9x16x128.size inb).emb y 2).val = d + (y 2).val := by
    show d + 1 * (y 2).val = _; omega
  have e3 : ((Rect.unit (s := S1x9x64x128) ![0, 0, d, 0] S1x9x16x128.size inb).emb y 3).val = (y 3).val := by
    show 0 + 1 * (y 3).val = _; omega
  unfold clsBlk
  rw [e1, e2, e3]
  have key (j : Fin 9) (r : Fin 16) (x : Fin 128) :
      clsOf (headsOf win x3 x4 x5 x6) (ix4 (0 : Fin 1) j r x) = Ideal.logistic (head X W β U γ b j (s + (d + r.val)) x.val) := by
    rw [clsOf_apply, h.heads W β x3 x4 x5 x6 h3 h5, h6 j, Nat.add_assoc]
    unfold head
    exact congrArg (fun u => Ideal.logistic (u + γ (ix1 j))) (Finset.sum_congr rfl fun o _ => by rw [h4 j o])
  exact (congrArg (clsOf (headsOf win x3 x4 x5 x6)) hy).trans (key (y 1) (y 2) (y 3))

/-- The box rows stored from row `d` of the block are the block's. -/
theorem bbox_store (U : HeadW 36) (γ : Bias 36)
    (h4 : ∀ (j : Fin 36) (o : Fin 256), x4 (ix2 (⟨9 + j.val, by omega⟩ : Fin 48) o) = U (ix4 j o 0 0))
    (h6 : ∀ j : Fin 36, x6 (ix2 (⟨9 + j.val, by omega⟩ : Fin 48) (0 : Fin 1)) = γ (ix1 j))
    (inb : ∀ a : Fin 4, (![0, 0, d, 0] : Fin 4 → ℕ) a + S1x36x16x128.size a ≤ S1x36x64x128.size a) (y : S1x36x16x128.Idx) :
    bboxOf (headsOf win x3 x4 x5 x6) y
      = bboxBlk X W β U γ b s ((Rect.unit (s := S1x36x64x128) ![0, 0, d, 0] S1x36x16x128.size inb).emb y) := by
  have hy : y = ix4 (0 : Fin 1) (y 1 : Fin 36) (y 2 : Fin 16) (y 3 : Fin 128) := by
    funext a
    match a with
    | ⟨0, _⟩ => exact Subsingleton.elim (α := Fin 1) _ _
    | ⟨1, _⟩ => rfl
    | ⟨2, _⟩ => rfl
    | ⟨3, _⟩ => rfl
  have e1 : (Rect.unit (s := S1x36x64x128) ![0, 0, d, 0] S1x36x16x128.size inb).emb y 1 = y 1 :=
    Fin.ext (by show 0 + 1 * (y 1).val = (y 1).val; omega)
  have e2 : ((Rect.unit (s := S1x36x64x128) ![0, 0, d, 0] S1x36x16x128.size inb).emb y 2).val = d + (y 2).val := by
    show d + 1 * (y 2).val = _; omega
  have e3 : ((Rect.unit (s := S1x36x64x128) ![0, 0, d, 0] S1x36x16x128.size inb).emb y 3).val = (y 3).val := by
    show 0 + 1 * (y 3).val = _; omega
  unfold bboxBlk
  rw [e1, e2, e3]
  have key (j : Fin 36) (r : Fin 16) (x : Fin 128) :
      bboxOf (headsOf win x3 x4 x5 x6) (ix4 (0 : Fin 1) j r x) = head X W β U γ b j (s + (d + r.val)) x.val := by
    rw [bboxOf_apply, h.heads W β x3 x4 x5 x6 h3 h5, h6 j, Nat.add_assoc]
    unfold head
    exact congrArg (· + γ (ix1 j)) (Finset.sum_congr rfl fun o _ => by rw [h4 j o])
  exact (congrArg (bboxOf (headsOf win x3 x4 x5 x6)) hy).trans (key (y 1) (y 2) (y 3))

end Stores

variable (m : (ℓ : Loc nD τ sig) → Buf (Elt Ideal) ℓ) (ρ : Dev nD → PrngReg) (c : Dev nD) (t : Fin cfg0.N)

/-! ## The blocks at a grid point -/

/-- The taps at a grid point are the 3×3 weights. -/
theorem blk3_apply (dy dx : Fin 3) (o k : Fin 256) :
    (iblk m c 3 t : Vec Ideal S9x256x256 .bf16) (ix3 (⟨3 * dy.val + dx.val, by omega⟩ : Fin 9) o k) = argW m c (ix4 o k dy dx) := by
  rw [blk3]; exact taps_apply m c dy dx o k

/-- The bias column at a grid point is the bias. -/
theorem blk5_apply (o : Fin 256) : (iblk m c 5 t : Vec Ideal S256x1 .f32) (ix2 o (0 : Fin 1)) = argB m c (ix1 o) := by
  rw [blk5]; exact bias_apply m c o

/-- The class block at a grid point. -/
theorem out7_apply (y : S1x9x64x128.Idx) :
    out0_7 (grid0.coords t) (iblk m c 0 t) (iblk m c 1 t) (iblk m c 2 t) (iblk m c 3 t) (iblk m c 4 t) (iblk m c 5 t) (iblk m c 6 t) y
      = clsBlk (argX m c) (argW m c) (argB m c) (argWc m c) (argBc m c) (img t) (64 * (t.val % 2)) y := by
  have h4 (j : Fin 9) (o : Fin 256) : (iblk m c 4 t : Vec Ideal S48x256 .bf16) (ix2 (⟨j.val, by omega⟩ : Fin 48) o) = argWc m c (ix4 j o 0 0) := by
    rw [blk4]; exact headW_cls m c j o
  have h6 (j : Fin 9) : (iblk m c 6 t : Vec Ideal S48x1 .f32) (ix2 (⟨j.val, by omega⟩ : Fin 48) (0 : Fin 1)) = argBc m c (ix1 j) := by
    rw [blk6]; exact headB_cls m c j
  rw [out7_eq]
  refine View.canon_apply_of_pieces (Val := Elt Ideal) (clsBlk (argX m c) (argW m c) (argB m c) (argWc m c) (argBc m c) (img t) (64 * (t.val % 2))) _
    (fun p hp y => ?_) y (cover0_7 _ _ _ _ y)
  simp only [List.mem_cons, List.mem_nil_iff, or_false] at hp
  rcases hp with rfl | rfl | rfl | rfl
  · exact cls_store (rows3 m c t) _ _ _ _ _ _ (blk3_apply m c t) (blk5_apply m c t) _ _ h4 h6 inb_S1x9x64x128_S1x9x16x128_0_0_48_0 y
  · exact cls_store (rows2 m c t) _ _ _ _ _ _ (blk3_apply m c t) (blk5_apply m c t) _ _ h4 h6 inb_S1x9x64x128_S1x9x16x128_0_0_32_0 y
  · exact cls_store (rows1 m c t) _ _ _ _ _ _ (blk3_apply m c t) (blk5_apply m c t) _ _ h4 h6 inb_S1x9x64x128_S1x9x16x128_0_0_16_0 y
  · exact cls_store (d := 0) (rows0 m c t) _ _ _ _ _ _ (blk3_apply m c t) (blk5_apply m c t) _ _ h4 h6 inb_S1x9x64x128_S1x9x16x128_0_0_0_0 y

/-- The box block at a grid point. -/
theorem out8_apply (y : S1x36x64x128.Idx) :
    out0_8 (grid0.coords t) (iblk m c 0 t) (iblk m c 1 t) (iblk m c 2 t) (iblk m c 3 t) (iblk m c 4 t) (iblk m c 5 t) (iblk m c 6 t) y
      = bboxBlk (argX m c) (argW m c) (argB m c) (argWb m c) (argBb m c) (img t) (64 * (t.val % 2)) y := by
  have h4 (j : Fin 36) (o : Fin 256) :
      (iblk m c 4 t : Vec Ideal S48x256 .bf16) (ix2 (⟨9 + j.val, by omega⟩ : Fin 48) o) = argWb m c (ix4 j o 0 0) := by
    rw [blk4]; exact headW_bbox m c j o
  have h6 (j : Fin 36) : (iblk m c 6 t : Vec Ideal S48x1 .f32) (ix2 (⟨9 + j.val, by omega⟩ : Fin 48) (0 : Fin 1)) = argBb m c (ix1 j) := by
    rw [blk6]; exact headB_bbox m c j
  rw [out8_eq]
  refine View.canon_apply_of_pieces (Val := Elt Ideal) (bboxBlk (argX m c) (argW m c) (argB m c) (argWb m c) (argBb m c) (img t) (64 * (t.val % 2))) _
    (fun p hp y => ?_) y (cover0_8 _ _ _ _ y)
  simp only [List.mem_cons, List.mem_nil_iff, or_false] at hp
  rcases hp with rfl | rfl | rfl | rfl
  · exact bbox_store (rows3 m c t) _ _ _ _ _ _ (blk3_apply m c t) (blk5_apply m c t) _ _ h4 h6 inb_S1x36x64x128_S1x36x16x128_0_0_48_0 y
  · exact bbox_store (rows2 m c t) _ _ _ _ _ _ (blk3_apply m c t) (blk5_apply m c t) _ _ h4 h6 inb_S1x36x64x128_S1x36x16x128_0_0_32_0 y
  · exact bbox_store (rows1 m c t) _ _ _ _ _ _ (blk3_apply m c t) (blk5_apply m c t) _ _ h4 h6 inb_S1x36x64x128_S1x36x16x128_0_0_16_0 y
  · exact bbox_store (d := 0) (rows0 m c t) _ _ _ _ _ _ (blk3_apply m c t) (blk5_apply m c t) _ _ h4 h6 inb_S1x36x64x128_S1x36x16x128_0_0_0_0 y

/-! ## The arrays after the run -/

/-- What the class array holds after the run. -/
abbrev clsArr : Buf (Elt Ideal) ((c : Thread nD τ).loc main_v12_0) := clsScore (argX m c) (argW m c) (argB m c) (argWc m c) (argBc m c)
/-- What the box array holds after the run. -/
abbrev bboxArr : Buf (Elt Ideal) ((c : Thread nD τ).loc main_v12_1) := bboxPred (argX m c) (argW m c) (argB m c) (argWb m c) (argBb m c)

/-- Every write-back of the class window is the block of the class scores under it. -/
theorem flush7_eq : (dats m 0 c).flushed 7 t = ((cfg0.win 7).blk t).view.read (Elt Ideal) (clsArr m c) := by
  have e := (idx_facts t).2.2.1.1
  rw [flushed7]
  funext y
  show out0_7 (grid0.coords t) (iblk m c 0 t) (iblk m c 1 t) (iblk m c 2 t) (iblk m c 3 t) (iblk m c 4 t) (iblk m c 5 t) (iblk m c 6 t) y
    = clsArr m c (((cfg0.win 7).blk t).view.emb y)
  rw [out7_apply]
  have e0 : ((cfg0.win 7).blk t).view.emb y 0 = img t := Fin.ext (by
    have hy : (y 0).val < 1 := (y 0).isLt
    show win0_7.index t 0 * 1 + 1 * (y 0).val = t.val / 2; rw [e]; show t.val / 2 * 1 + 1 * (y 0).val = _; omega)
  have e1 : ((cfg0.win 7).blk t).view.emb y 1 = y 1 := Fin.ext (by
    show win0_7.index t 1 * 9 + 1 * (y 1).val = (y 1).val; rw [e]; show 0 * 9 + 1 * (y 1).val = _; omega)
  have e2 : (((cfg0.win 7).blk t).view.emb y 2).val = 64 * (t.val % 2) + (y 2).val := by
    show win0_7.index t 2 * 64 + 1 * (y 2).val = _; rw [e]; show t.val % 2 * 64 + 1 * (y 2).val = _; omega
  have e3 : (((cfg0.win 7).blk t).view.emb y 3).val = (y 3).val := by
    show win0_7.index t 3 * 128 + 1 * (y 3).val = (y 3).val; rw [e]; show 0 * 128 + 1 * (y 3).val = _; omega
  unfold clsBlk clsArr clsScore
  rw [e0, e1, e2, e3]

/-- Every write-back of the box window is the block of the box regressions under it. -/
theorem flush8_eq : (dats m 0 c).flushed 8 t = ((cfg0.win 8).blk t).view.read (Elt Ideal) (bboxArr m c) := by
  have e := (idx_facts t).2.2.1.2
  rw [flushed8]
  funext y
  show out0_8 (grid0.coords t) (iblk m c 0 t) (iblk m c 1 t) (iblk m c 2 t) (iblk m c 3 t) (iblk m c 4 t) (iblk m c 5 t) (iblk m c 6 t) y
    = bboxArr m c (((cfg0.win 8).blk t).view.emb y)
  rw [out8_apply]
  have e0 : ((cfg0.win 8).blk t).view.emb y 0 = img t := Fin.ext (by
    have hy : (y 0).val < 1 := (y 0).isLt
    show win0_8.index t 0 * 1 + 1 * (y 0).val = t.val / 2; rw [e]; show t.val / 2 * 1 + 1 * (y 0).val = _; omega)
  have e1 : ((cfg0.win 8).blk t).view.emb y 1 = y 1 := Fin.ext (by
    show win0_8.index t 1 * 36 + 1 * (y 1).val = (y 1).val; rw [e]; show 0 * 36 + 1 * (y 1).val = _; omega)
  have e2 : (((cfg0.win 8).blk t).view.emb y 2).val = 64 * (t.val % 2) + (y 2).val := by
    show win0_8.index t 2 * 64 + 1 * (y 2).val = _; rw [e]; show t.val % 2 * 64 + 1 * (y 2).val = _; omega
  have e3 : (((cfg0.win 8).blk t).view.emb y 3).val = (y 3).val := by
    show win0_8.index t 3 * 128 + 1 * (y 3).val = (y 3).val; rw [e]; show 0 * 128 + 1 * (y 3).val = _; omega
  unfold bboxBlk bboxArr bboxPred
  rw [e0, e1, e2, e3]

/-- The grid point that covers image `b`, row `y`. -/
def pointOf (b : Fin 8) (y : Fin 128) : Fin cfg0.N := ⟨2 * b.val + y.val / 64, by show _ < 16; omega⟩

/-- Every entry of the class array is written back at its point. -/
theorem cover7 (i : S8x9x128x128.Idx) : ∃ t : Fin cfg0.N, (cfg0.win 7).flush t = true ∧ i ∈ ((cfg0.win 7).blk t).view.set := by
  refine ⟨pointOf (i 0) (i 2), flush0_7 _, ?_⟩
  have e := (idx_facts (pointOf (i 0) (i 2))).2.2.1.1
  have hv : (pointOf (i 0) (i 2)).val = 2 * (i 0).val + (i 2).val / 64 := rfl
  have b0 : (i 0).val < 8 := (i 0).isLt
  have b1 : (i 1).val < 9 := (i 1).isLt
  have b2 : (i 2).val < 128 := (i 2).isLt
  have b3 : (i 3).val < 128 := (i 3).isLt
  show i ∈ ((View.whole main_v12_0).slice (win0_7.rect (pointOf (i 0) (i 2)))).set
  rw [View.set_slice_whole, Rect.mem_set_unit]
  intro a
  match a with
  | ⟨0, _⟩ => show win0_7.index _ 0 * 1 ≤ (i 0).val ∧ (i 0).val < win0_7.index _ 0 * 1 + 1
              rw [e]; show (pointOf (i 0) (i 2)).val / 2 * 1 ≤ _ ∧ _ < (pointOf (i 0) (i 2)).val / 2 * 1 + 1; omega
  | ⟨1, _⟩ => show win0_7.index _ 1 * 9 ≤ (i 1).val ∧ (i 1).val < win0_7.index _ 1 * 9 + 9
              rw [e]; show 0 * 9 ≤ (i 1).val ∧ (i 1).val < 0 * 9 + 9; omega
  | ⟨2, _⟩ => show win0_7.index _ 2 * 64 ≤ (i 2).val ∧ (i 2).val < win0_7.index _ 2 * 64 + 64
              rw [e]; show (pointOf (i 0) (i 2)).val % 2 * 64 ≤ _ ∧ _ < (pointOf (i 0) (i 2)).val % 2 * 64 + 64; omega
  | ⟨3, _⟩ => show win0_7.index _ 3 * 128 ≤ (i 3).val ∧ (i 3).val < win0_7.index _ 3 * 128 + 128
              rw [e]; show 0 * 128 ≤ (i 3).val ∧ (i 3).val < 0 * 128 + 128; omega

/-- Every entry of the box array is written back at its point. -/
theorem cover8 (i : S8x36x128x128.Idx) : ∃ t : Fin cfg0.N, (cfg0.win 8).flush t = true ∧ i ∈ ((cfg0.win 8).blk t).view.set := by
  refine ⟨pointOf (i 0) (i 2), flush0_8 _, ?_⟩
  have e := (idx_facts (pointOf (i 0) (i 2))).2.2.1.2
  have hv : (pointOf (i 0) (i 2)).val = 2 * (i 0).val + (i 2).val / 64 := rfl
  have b0 : (i 0).val < 8 := (i 0).isLt
  have b1 : (i 1).val < 36 := (i 1).isLt
  have b2 : (i 2).val < 128 := (i 2).isLt
  have b3 : (i 3).val < 128 := (i 3).isLt
  show i ∈ ((View.whole main_v12_1).slice (win0_8.rect (pointOf (i 0) (i 2)))).set
  rw [View.set_slice_whole, Rect.mem_set_unit]
  intro a
  match a with
  | ⟨0, _⟩ => show win0_8.index _ 0 * 1 ≤ (i 0).val ∧ (i 0).val < win0_8.index _ 0 * 1 + 1
              rw [e]; show (pointOf (i 0) (i 2)).val / 2 * 1 ≤ _ ∧ _ < (pointOf (i 0) (i 2)).val / 2 * 1 + 1; omega
  | ⟨1, _⟩ => show win0_8.index _ 1 * 36 ≤ (i 1).val ∧ (i 1).val < win0_8.index _ 1 * 36 + 36
              rw [e]; show 0 * 36 ≤ (i 1).val ∧ (i 1).val < 0 * 36 + 36; omega
  | ⟨2, _⟩ => show win0_8.index _ 2 * 64 ≤ (i 2).val ∧ (i 2).val < win0_8.index _ 2 * 64 + 64
              rw [e]; show (pointOf (i 0) (i 2)).val % 2 * 64 ≤ _ ∧ _ < (pointOf (i 0) (i 2)).val % 2 * 64 + 64; omega
  | ⟨3, _⟩ => show win0_8.index _ 3 * 128 ≤ (i 3).val ∧ (i 3).val < win0_8.index _ 3 * 128 + 128
              rw [e]; show 0 * 128 ≤ (i 3).val ∧ (i 3).val < 0 * 128 + 128; omega

/-- The kernel runs to the end; its result arrays hold the class scores and the box regressions of the arguments as launched,
    and the arguments are unchanged. -/
theorem run : θ_run defs (onTc (τ := τ) (main (F := Ideal))) ⟨m, fun _ => 0, ρ⟩ fun r => ∀ c : Dev nD,
      r.2.mem ((c : Thread nD τ).loc main_v12_0) = clsArr m c
      ∧ r.2.mem ((c : Thread nD τ).loc main_v12_1) = bboxArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c =>
    ⟨(h c).1.trans ((dats m 0 c).arrAt_eq_of_cover 7 (clsArr m c) (fun t _ => flush7_eq m c t) cover7),
      (h c).2.1.trans ((dats m 0 c).arrAt_eq_of_cover 8 (bboxArr m c) (fun t _ => flush8_eq m c t) cover8), (h c).2.2⟩)
    (run_blocks m ρ)

end Cert.KernelIdeal.Rpn

end
-- ==== Proof.RefValue.lean ====
/- The reference's two results read at an index: the class scores and the box regressions of the specification. -/
module

public import proofs.«01_k».proof.Proof.Gen.ReferenceIdeal.Read
public import proofs.«01_k».proof.Proof.Spec
public import Idealize.ShloMosaic.Lib.KernelVsHost
public import Idealize.ShloMosaic.Lib.IdealHost

@[expose] public section

noncomputable section

namespace Cert.ReferenceIdeal.Rpn

open Cert.ReferenceIdeal Cert.ReferenceIdeal.Gen Cert.ReferenceIdeal.Read Cert.Rpn Idealize.ShloMosaic Idealize.ShloMosaic.ValueIdx

variable (X : Feat) (W : ConvW) (β : Bias 256)

/-- The reference's padded array is the padded map. -/
theorem pad_apply (b : Fin 8) (k : Fin 256) (yy xx : Fin 130) : val_main_v0 (F := Ideal) X (ix4 b k yy xx) = padded X b k yy.val xx.val := by
  have hz : val_main_call0_v0 (F := Ideal) (Shape.Idx.first h_S_) = 0 := by
    show (((0#32 : BitVec 32).toInt : ℝ) : EReal) = 0
    simp
  unfold val_main_v0 padded
  split
  · next h =>
    exact pad_apply_of_inside _ _ _ _ _ _ _ _ (ix4 b k (⟨yy.val - 1, by omega⟩ : Fin 128) (⟨xx.val - 1, by omega⟩ : Fin 128)) (by
      intro a
      match a with
      | ⟨0, _⟩ => show b.val = 0 + b.val * (0 + 1); omega
      | ⟨1, _⟩ => show k.val = 0 + k.val * (0 + 1); omega
      | ⟨2, _⟩ => show yy.val = 1 + (yy.val - 1) * (0 + 1); omega
      | ⟨3, _⟩ => show xx.val = 1 + (xx.val - 1) * (0 + 1); omega)
  · next h =>
    rw [← hz]
    by_cases hy : 1 ≤ yy.val ∧ yy.val ≤ 128
    · exact pad_apply_of_not_inside _ _ _ _ _ _ _ _ (3 : Fin 4) (by
        show ¬(1 ≤ xx.val ∧ (xx.val - 1) % (0 + 1) = 0 ∧ (xx.val - 1) / (0 + 1) < 128); omega)
    · exact pad_apply_of_not_inside _ _ _ _ _ _ _ _ (2 : Fin 4) (by
        show ¬(1 ≤ yy.val ∧ (yy.val - 1) % (0 + 1) = 0 ∧ (yy.val - 1) / (0 + 1) < 128); omega)

/-- One of the nine contractions, transposed: at tap `dy`, `dx` it is that tap's term of the convolution. -/
theorem tap_apply (dy dx : Fin 3) (hw : S256x256x3x3.Slices ![0, 0, dy.val, dx.val] S256x256x1x1)
    (hp : S8x256x130x130.Slices ![0, 0, dy.val, dx.val] S8x256x128x128) (b : Fin 8) (o : Fin 256) (y x : Fin 128) :
    (transpose S8x256x128x128 [0, 3, 1, 2] (Host.dotGeneral dot_S8x256x128x128_S256x256_S8x128x128x256_1_1_023_0_n_n none
      (extractStridedSlice S8x256x128x128 ![0, 0, dy.val, dx.val] (val_main_v0 (F := Ideal) X) hp : FVec Ideal S8x256x128x128 .f32)
      (shapeCast S256x256 (extractStridedSlice S256x256x1x1 ![0, 0, dy.val, dx.val] W hw) shapeCasts_S256x256x1x1_S256x256 : FVec Ideal S256x256 .f32))
      transposes_S8x128x128x256_S8x256x128x128_0_3_1_2 : FVec Ideal S8x256x128x128 .f32) (ix4 b o y x)
      = ∑ k : Fin 256, W (ix4 o k dy dx) * padded X b k (y.val + dy.val) (x.val + dx.val) := by
  rw [transpose_apply _ _ _ _ (ix4 b y x o) (by intro a; fin_cases a <;> rfl)]
  simp only [Host.dotGeneral]
  rw [Ideal.dotGeneral_apply, ← Equiv.sum_comp (contrEquiv1 dot_S8x256x128x128_S256x256_S8x128x128x256_1_1_023_0_n_n 256 rfl rfl).symm]
  refine Finset.sum_congr rfl fun k _ => ?_
  have hk := contrEquiv1_symm_val dot_S8x256x128x128_S256x256_S8x128x128x256_1_1_023_0_n_n 256 rfl rfl k
  have l0 := lhs_main_v4_0 (ix4 b y x o) ((contrEquiv1 dot_S8x256x128x128_S256x256_S8x128x128x256_1_1_023_0_n_n 256 rfl rfl).symm k)
  have l1 := lhs_main_v4_1 (ix4 b y x o) ((contrEquiv1 dot_S8x256x128x128_S256x256_S8x128x128x256_1_1_023_0_n_n 256 rfl rfl).symm k)
  have l2 := lhs_main_v4_2 (ix4 b y x o) ((contrEquiv1 dot_S8x256x128x128_S256x256_S8x128x128x256_1_1_023_0_n_n 256 rfl rfl).symm k)
  have l3 := lhs_main_v4_3 (ix4 b y x o) ((contrEquiv1 dot_S8x256x128x128_S256x256_S8x128x128x256_1_1_023_0_n_n 256 rfl rfl).symm k)
  rw [extractStridedSlice_apply _ _ _ _ (ix4 b k (⟨y.val + dy.val, by omega⟩ : Fin 130) (⟨x.val + dx.val, by omega⟩ : Fin 130)) (by
      intro a
      match a with
      | ⟨0, _⟩ => exact l0.symm.trans (Nat.zero_add _).symm
      | ⟨1, _⟩ => exact (l1.trans hk).symm.trans (Nat.zero_add _).symm
      | ⟨2, _⟩ => exact (Nat.add_comm _ _).trans (congrArg (dy.val + ·) l2.symm)
      | ⟨3, _⟩ => exact (Nat.add_comm _ _).trans (congrArg (dx.val + ·) l3.symm)),
    pad_apply, shapeCast_apply _ _ _ (ix4 o k (0 : Fin 1) (0 : Fin 1)) (by
      rw [Shape.rowMajor_val_four, Shape.rowMajor_val_two, rhs_main_v4_0, rhs_main_v4_1, hk]
      show ((o.val * 256 + k.val) * 1 + 0) * 1 + 0 = o.val * 256 + k.val
      omega),
    extractStridedSlice_apply _ _ _ _ (ix4 o k dy dx) (by
      intro a
      match a with
      | ⟨0, _⟩ => exact (Nat.zero_add _).symm
      | ⟨1, _⟩ => exact (Nat.zero_add _).symm
      | ⟨2, _⟩ => rfl
      | ⟨3, _⟩ => rfl), mul_comm]

/-- The nine contractions added to zero are the convolution. -/
theorem conv_apply (b : Fin 8) (o : Fin 256) (y x : Fin 128) : val_main_v55 (F := Ideal) X W (ix4 b o y x) = conv X W b o y.val x.val := by
  have hz : val_main_v6 (F := Ideal) (ix4 b o y x) = 0 := (val_main_v6_apply _).trans Ideal.ofBits_zero_f32
  have h00 : val_main_v5 (F := Ideal) X W (ix4 b o y x) = _ := tap_apply X W 0 0 slices_S256x256x3x3_S256x256x1x1_0_0_0_0 slices_S8x256x130x130_S8x256x128x128_0_0_0_0 b o y x
  have h01 : val_main_v12 (F := Ideal) X W (ix4 b o y x) = _ := tap_apply X W 0 1 slices_S256x256x3x3_S256x256x1x1_0_0_0_1 slices_S8x256x130x130_S8x256x128x128_0_0_0_1 b o y x
  have h02 : val_main_v18 (F := Ideal) X W (ix4 b o y x) = _ := tap_apply X W 0 2 slices_S256x256x3x3_S256x256x1x1_0_0_0_2 slices_S8x256x130x130_S8x256x128x128_0_0_0_2 b o y x
  have h10 : val_main_v24 (F := Ideal) X W (ix4 b o y x) = _ := tap_apply X W 1 0 slices_S256x256x3x3_S256x256x1x1_0_0_1_0 slices_S8x256x130x130_S8x256x128x128_0_0_1_0 b o y x
  have h11 : val_main_v30 (F := Ideal) X W (ix4 b o y x) = _ := tap_apply X W 1 1 slices_S256x256x3x3_S256x256x1x1_0_0_1_1 slices_S8x256x130x130_S8x256x128x128_0_0_1_1 b o y x
  have h12 : val_main_v36 (F := Ideal) X W (ix4 b o y x) = _ := tap_apply X W 1 2 slices_S256x256x3x3_S256x256x1x1_0_0_1_2 slices_S8x256x130x130_S8x256x128x128_0_0_1_2 b o y x
  have h20 : val_main_v42 (F := Ideal) X W (ix4 b o y x) = _ := tap_apply X W 2 0 slices_S256x256x3x3_S256x256x1x1_0_0_2_0 slices_S8x256x130x130_S8x256x128x128_0_0_2_0 b o y x
  have h21 : val_main_v48 (F := Ideal) X W (ix4 b o y x) = _ := tap_apply X W 2 1 slices_S256x256x3x3_S256x256x1x1_0_0_2_1 slices_S8x256x130x130_S8x256x128x128_0_0_2_1 b o y x
  have h22 : val_main_v54 (F := Ideal) X W (ix4 b o y x) = _ := tap_apply X W 2 2 slices_S256x256x3x3_S256x256x1x1_0_0_2_2 slices_S8x256x130x130_S8x256x128x128_0_0_2_2 b o y x
  rw [val_main_v55_apply, val_main_v49_apply, val_main_v43_apply, val_main_v37_apply, val_main_v31_apply, val_main_v25_apply,
    val_main_v19_apply, val_main_v13_apply, val_main_v7_apply, hz, h00, h01, h02, h10, h11, h12, h20, h21, h22]
  unfold conv sum9
  exact congrArg (fun u : EReal => u + _ + _ + _ + _ + _ + _ + _ + _) (zero_add _)

/-- The reference's hidden map is the specification's. -/
theorem hidden_apply (b : Fin 8) (o : Fin 256) (y x : Fin 128) :
    val_main_v59 (F := Ideal) X W β (ix4 b o y x) = Cert.Rpn.hidden X W β b o y.val x.val := by
  have hz : val_main_call1_v0 (F := Ideal) (ix4 b o y x) = 0 := (val_main_call1_v0_apply _).trans Ideal.ofBits_zero_f32
  have hb : val_main_v57 (F := Ideal) β (ix4 b o y x) = β (ix1 o) := by
    rw [val_main_v57_apply, val_main_v56_apply]
    exact congrArg β (funext fun a => match a with | ⟨0, _⟩ => rfl)
  rw [val_main_v59_apply, val_main_v58_apply, hz, hb, conv_apply]
  rfl

/-- The reference's class head before the sigmoid. -/
theorem clsHead_apply (U : HeadW 9) (γ : Bias 9) (b : Fin 8) (j : Fin 9) (y x : Fin 128) :
    val_main_v65 (F := Ideal) X W β U γ (ix4 b j y x) = head X W β U γ b j y.val x.val := by
  have hb : val_main_v64 (F := Ideal) γ (ix4 b j y x) = γ (ix1 j) := by
    rw [val_main_v64_apply, val_main_v63_apply]
    exact congrArg γ (funext fun a => match a with | ⟨0, _⟩ => rfl)
  rw [val_main_v65_apply, hb, val_main_v62_apply, val_main_v61_apply]
  refine congrArg (fun u : EReal => u + γ (ix1 j)) (Finset.sum_congr rfl fun o _ => ?_)
  rw [mul_comm]
  refine congrArg₂ (fun u v : EReal => u * v) ?_ ?_
  · rw [val_main_v60_apply]
    refine congrArg U (funext fun a => Fin.ext ?_)
    match a with
    | ⟨0, _⟩ => show (j.val * 256 + o.val) / 256 = j.val; omega
    | ⟨1, _⟩ => show (j.val * 256 + o.val) / 1 % 256 = o.val; omega
    | ⟨2, _⟩ => rfl
    | ⟨3, _⟩ => rfl
  · refine Eq.trans (congrArg (val_main_v59 (F := Ideal) X W β) (funext fun a => ?_)) (hidden_apply X W β b o y x)
    match a with
    | ⟨0, _⟩ => rfl
    | ⟨1, _⟩ => rfl
    | ⟨2, _⟩ => rfl
    | ⟨3, _⟩ => rfl

/-- The reference's box head. -/
theorem bboxHead_apply (U : HeadW 36) (γ : Bias 36) (b : Fin 8) (j : Fin 36) (y x : Fin 128) :
    val_main_v77 (F := Ideal) X W β U γ (ix4 b j y x) = head X W β U γ b j y.val x.val := by
  have hb : val_main_v76 (F := Ideal) γ (ix4 b j y x) = γ (ix1 j) := by
    rw [val_main_v76_apply, val_main_v75_apply]
    exact congrArg γ (funext fun a => match a with | ⟨0, _⟩ => rfl)
  rw [val_main_v77_apply, hb, val_main_v74_apply, val_main_v73_apply]
  refine congrArg (fun u : EReal => u + γ (ix1 j)) (Finset.sum_congr rfl fun o _ => ?_)
  rw [mul_comm]
  refine congrArg₂ (fun u v : EReal => u * v) ?_ ?_
  · rw [val_main_v72_apply]
    refine congrArg U (funext fun a => Fin.ext ?_)
    match a with
    | ⟨0, _⟩ => show (j.val * 256 + o.val) / 256 = j.val; omega
    | ⟨1, _⟩ => show (j.val * 256 + o.val) / 1 % 256 = o.val; omega
    | ⟨2, _⟩ => rfl
    | ⟨3, _⟩ => rfl
  · refine Eq.trans (congrArg (val_main_v59 (F := Ideal) X W β) (funext fun a => ?_)) (hidden_apply X W β b o y x)
    match a with
    | ⟨0, _⟩ => rfl
    | ⟨1, _⟩ => rfl
    | ⟨2, _⟩ => rfl
    | ⟨3, _⟩ => rfl

/-- An index is its coordinates. -/
theorem idx_eta {n : ℕ} (i : (⟨4, ![8, n, 128, 128]⟩ : Shape).Idx) : i = ix4 (i 0 : Fin 8) (i 1 : Fin n) (i 2 : Fin 128) (i 3 : Fin 128) := by
  funext a
  match a with
  | ⟨0, _⟩ => rfl
  | ⟨1, _⟩ => rfl
  | ⟨2, _⟩ => rfl
  | ⟨3, _⟩ => rfl

/-- The reference's first result is the class scores. -/
theorem cls_eq (U : HeadW 9) (γ : Bias 9) : val_main_v71 (F := Ideal) X W β U γ = clsScore X W β U γ := by
  funext i
  have h1 : val_main_v70 (F := Ideal) i = 1 := (val_main_v70_apply i).trans Ideal.ofBits_one_f32
  have h2 : val_main_v68 (F := Ideal) i = 1 := (val_main_v68_apply i).trans Ideal.ofBits_one_f32
  have h3 : val_main_v65 (F := Ideal) X W β U γ i = head X W β U γ (i 0) (i 1) (i 2).val (i 3).val :=
    (congrArg (val_main_v65 (F := Ideal) X W β U γ) (idx_eta i)).trans (clsHead_apply X W β U γ (i 0) (i 1) (i 2) (i 3))
  rw [val_main_v71_apply, val_main_v69_apply, val_main_v67_apply, val_main_v66_apply, h1, h2, h3]
  rfl

/-- The reference's second result is the box regressions. -/
theorem bbox_eq (U : HeadW 36) (γ : Bias 36) : val_main_v77 (F := Ideal) X W β U γ = bboxPred X W β U γ := by
  funext i
  exact (congrArg (val_main_v77 (F := Ideal) X W β U γ) (idx_eta i)).trans (bboxHead_apply X W β U γ (i 0) (i 1) (i 2) (i 3))

end Cert.ReferenceIdeal.Rpn

end
-- ==== Proof.lean ====
module

public import proofs.«01_k».proof.Proof.Output
public import proofs.«01_k».proof.Proof.RefValue
public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments unchanged and ends with every semaphore at zero: it has none. -/
theorem reference_frame : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Value.run (F := Ideal) m g)

/-- The reference's first result, at the arguments it shares with the kernel. -/
theorem reference_cls (m : (ℓ : Loc Cert.ReferenceIdeal.nD Cert.ReferenceIdeal.τ Cert.ReferenceIdeal.sig) → Buf (Elt Ideal) ℓ)
    (c : Dev Cert.ReferenceIdeal.nD) : Cert.ReferenceIdeal.Value.res_main_v71 m c
      = Cert.Rpn.clsScore (m ((c.tc : Thread _ _).loc Cert.ReferenceIdeal.main_arg0)) (m ((c.tc : Thread _ _).loc Cert.ReferenceIdeal.main_arg1))
        (m ((c.tc : Thread _ _).loc Cert.ReferenceIdeal.main_arg2)) (m ((c.tc : Thread _ _).loc Cert.ReferenceIdeal.main_arg3))
        (m ((c.tc : Thread _ _).loc Cert.ReferenceIdeal.main_arg4)) :=
  (Cert.ReferenceIdeal.Read.val_main_v71_eq m c).trans (Cert.ReferenceIdeal.Rpn.cls_eq _ _ _ _ _)

/-- The reference's second result, at the arguments it shares with the kernel. -/
theorem reference_bbox (m : (ℓ : Loc Cert.ReferenceIdeal.nD Cert.ReferenceIdeal.τ Cert.ReferenceIdeal.sig) → Buf (Elt Ideal) ℓ)
    (c : Dev Cert.ReferenceIdeal.nD) : Cert.ReferenceIdeal.Value.res_main_v77 m c
      = Cert.Rpn.bboxPred (m ((c.tc : Thread _ _).loc Cert.ReferenceIdeal.main_arg0)) (m ((c.tc : Thread _ _).loc Cert.ReferenceIdeal.main_arg1))
        (m ((c.tc : Thread _ _).loc Cert.ReferenceIdeal.main_arg2)) (m ((c.tc : Thread _ _).loc Cert.ReferenceIdeal.main_arg5))
        (m ((c.tc : Thread _ _).loc Cert.ReferenceIdeal.main_arg6)) :=
  (Cert.ReferenceIdeal.Read.val_main_v77_eq m c).trans (Cert.ReferenceIdeal.Rpn.bbox_eq _ _ _ _ _)

/-- From equal arguments the kernel and the reference end with the same class scores and the same box regressions. -/
theorem results_agree : Cert.algebraic_KernelIdeal_ReferenceIdeal (hKernelIdeal := Cert.KernelIdeal.Gen.facts)
    (hReferenceIdeal := Cert.ReferenceIdeal.Gen.facts) := fun m g m' g' _ hargs =>
  ⟨fun c => Cert.KernelIdeal.Rpn.clsArr m c, fun c => Cert.KernelIdeal.Rpn.bboxArr m c, Cert.KernelIdeal.Rpn.run m g,
    (θ_run Cert.ReferenceIdeal.defs _ _).mono (fun r h c => by
      obtain ⟨a0, a1, a2, a3, a4, a5, a6⟩ := hargs c
      refine ⟨(h c).1.trans ((reference_cls m' c).trans ?_), (h c).2.1.trans ((reference_bbox m' c).trans ?_), (h c).2.2⟩
      · rw [a0, a1, a2, a3, a4]
      · rw [a0, a1, a2, a5, a6])
      (Cert.ReferenceIdeal.Value.run (F := Ideal) m' g')⟩

/-- Everything the certificate claims. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, results_agree⟩

end Cert.Proof

end
